-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_row_max [hPre_finite_row_max : Cert.Pre_finite_row_max.Facts] (m : (ℓ : Loc Cert.KernelIdeal.nD Cert.KernelIdeal.τ Cert.KernelIdeal.sig) → Buf (Elt Ideal) ℓ) : Prop :=
  ∀ c : Dev Cert.KernelIdeal.nD,
    (Cert.Pre_finite_row_max.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_row_max [hPre_finite_row_max : Cert.Pre_finite_row_max.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_row_max.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_row_max [hKernelIdeal : Cert.KernelIdeal.Facts] [hPre_finite_row_max : Cert.Pre_finite_row_max.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_row_max m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_row_max [hReferenceIdeal : Cert.ReferenceIdeal.Facts] [hPre_finite_row_max : Cert.Pre_finite_row_max.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_row_max m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_row_max [hKernelIdeal : Cert.KernelIdeal.Facts] [hReferenceIdeal : Cert.ReferenceIdeal.Facts] [hPre_finite_row_max : Cert.Pre_finite_row_max.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_row_max m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_row_max : Cert.Pre_finite_row_max.Facts),
    quiescent_Kernel (hKernel := hKernel)
    ∧ quiescent_KernelIdeal (hKernelIdeal := hKernelIdeal)
    ∧ quiescent_KernelIdeal_pre_finite_row_max (hKernelIdeal := hKernelIdeal) (hPre_finite_row_max := hPre_finite_row_max)
    ∧ quiescent_ReferenceIdeal (hReferenceIdeal := hReferenceIdeal)
    ∧ quiescent_ReferenceIdeal_pre_finite_row_max (hReferenceIdeal := hReferenceIdeal) (hPre_finite_row_max := hPre_finite_row_max)
    ∧ preserves_Kernel_KernelIdeal
    ∧ algebraic_KernelIdeal_ReferenceIdeal_pre_finite_row_max (hKernelIdeal := hKernelIdeal) (hReferenceIdeal := hReferenceIdeal) (hPre_finite_row_max := hPre_finite_row_max)
-- ==== Pre_finite_row_max.lean ====
abbrev S64x1024x512 : Shape := ⟨3, ![64, 1024, 512]⟩
abbrev S64x3x512x512 : Shape := ⟨4, ![64, 3, 512, 512]⟩
abbrev S64x1024 : Shape := ⟨2, ![64, 1024]⟩
abbrev S_ : Shape := ⟨0, ![]⟩

class Facts : Prop where
  reducesTo_S64x1024x512_S64x1024_d2 : S64x1024x512.ReducesTo [2] S64x1024
  h_S_ : 0 < S_.numel
  bcast_S_S64x1024 : S_.BroadcastsInDim S64x1024 (![] : Fin 0 → Fin S64x1024.rank)

variable [Facts]

def fn {F : FTy → Type} [FloatOps F] (main_arg0 : FVec F S64x1024x512 .f32) (main_arg1 : FVec F S64x3x512x512 .f32) (main_arg2 : IVec S64x1024 1) : IVec S64x1024 1 :=
  let main_cst : FVec F S_ .f32 := constant S_ .f32 0xFF800000#32
  let main_v0 : FVec F S64x1024 .f32 := (fun x v => Host.reduce FloatOps.maximumf x v reducesTo_S64x1024x512_S64x1024_d2 h_S_) main_arg0 main_cst
  let main_v1 : FVec F S64x1024 .f32 := Host.absf main_v0
  let main_cst_0 : FVec F S_ .f32 := constant S_ .f32 0x7F800000#32
  let main_v2 : FVec F S64x1024 .f32 := broadcastInDim S64x1024 ![] bcast_S_S64x1024 main_cst_0
  let main_v3 : IVec S64x1024 1 := cmpf .olt main_v1 main_v2
  main_v3
-- ==== Kernel.lean ====
abbrev S64x1024x512 : Shape := ⟨3, ![64, 1024, 512]⟩
abbrev S64x3x512x512 : Shape := ⟨4, ![64, 3, 512, 512]⟩
abbrev S64x1024 : Shape := ⟨2, ![64, 1024]⟩
abbrev S4x16x32x32 : Shape := ⟨4, ![4, 16, 32, 32]⟩
abbrev S65536x512 : Shape := ⟨2, ![65536, 512]⟩
abbrev S16x2x1x1 : Shape := ⟨4, ![16, 2, 1, 1]⟩
abbrev S_ : Shape := ⟨0, ![]⟩
abbrev S1x3x256x512 : Shape := ⟨4, ![1, 3, 256, 512]⟩
abbrev S512x512 : Shape := ⟨2, ![512, 512]⟩
abbrev S1x1x1x1 : Shape := ⟨4, ![1, 1, 1, 1]⟩
abbrev S512x32 : Shape := ⟨2, ![512, 32]⟩
abbrev S16x32 : Shape := ⟨2, ![16, 32]⟩
abbrev S1x1x256x512 : Shape := ⟨4, ![1, 1, 256, 512]⟩
abbrev S256x512 : Shape := ⟨2, ![256, 512]⟩
abbrev S16x16x512 : Shape := ⟨3, ![16, 16, 512]⟩
abbrev S16x512 : Shape := ⟨2, ![16, 512]⟩
abbrev S1x1x16x32 : Shape := ⟨4, ![1, 1, 16, 32]⟩
abbrev S16x32x512 : Shape := ⟨3, ![16, 32, 512]⟩
abbrev S16x32x1 : Shape := ⟨3, ![16, 32, 1]⟩
abbrev S1x16x32 : Shape := ⟨3, ![1, 16, 32]⟩
abbrev S1 : Shape := ⟨1, ![1]⟩
abbrev S1x1x1 : Shape := ⟨3, ![1, 1, 1]⟩

abbrev nBuf : Space → Nat
  | .hbm => 13
  | .vmem => 21
  | .smem => 0
  | _ => 0

abbrev bufTy : (tb : Table) → Fin (tcTables nBuf tb) → BufTy
  | .hbm, ⟨0, _⟩ => ⟨S64x1024x512, .f32⟩
  | .hbm, ⟨1, _⟩ => ⟨S64x3x512x512, .f32⟩
  | .hbm, ⟨2, _⟩ => ⟨S64x1024, .i1⟩
  | .hbm, ⟨3, _⟩ => ⟨S64x1024, .i32⟩
  | .hbm, ⟨4, _⟩ => ⟨S4x16x32x32, .i32⟩
  | .hbm, ⟨5, _⟩ => ⟨S65536x512, .f32⟩
  | .hbm, ⟨6, _⟩ => ⟨S16x2x1x1, .f32⟩
  | .hbm, ⟨7, _⟩ => ⟨S16x2x1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1x3x256x512, .f32⟩
  | .local _ .vmem, ⟨1, _⟩ => ⟨S1x3x256x512, .f32⟩
  | .local _ .vmem, ⟨2, _⟩ => ⟨S1x3x256x512, .f32⟩
  | .local _ .vmem, ⟨3, _⟩ => ⟨S1x3x256x512, .f32⟩
  | .local _ .vmem, ⟨4, _⟩ => ⟨S1x3x256x512, .f32⟩
  | .local _ .vmem, ⟨5, _⟩ => ⟨S1x3x256x512, .f32⟩
  | .local _ .vmem, ⟨6, _⟩ => ⟨S1x3x256x512, .f32⟩
  | .local _ .vmem, ⟨7, _⟩ => ⟨S1x3x256x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S4x16x32x32, .i32⟩
  | .local _ .vmem, ⟨17, _⟩ => ⟨S1x1x1x1, .f32⟩
  | .local _ .vmem, ⟨18, _⟩ => ⟨S1x1x1x1, .f32⟩
  | .local _ .vmem, ⟨19, _⟩ => ⟨S1x1x1x1, .f32⟩
  | .local _ .vmem, ⟨20, _⟩ => ⟨S1x1x1x1, .f32⟩
  | _, _ => ⟨S64x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3_0 : Ref sig .tc := ⟨.hbm, 6, rfl⟩
abbrev main_call0_v3_1 : Ref sig .tc := ⟨.hbm, 7, rfl⟩
abbrev main_call0_cst : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![16, 2], ![false, false]⟩

def k0_off1 (i : grid0.Coords) : Fin 4 → Nat :=
  let c0_50 : Index := 0#32
  let arg0 : BitVec 32 := BitVec.ofNat 32 (i 0).val
  let v150 : Index := Scalar.indexCast arg0
  let arg1 : BitVec 32 := BitVec.ofNat 32 (i 1).val
  let c16_i32_49 : BitVec 32 := 16#32
  let v149 : BitVec 32 := Scalar.muli arg1 c16_i32_49
  let v151 : Index := Scalar.indexCast v149
  let c0_51 : Index := 0#32
  ![0, v150.toNat, v151.toNat, 0]
def k0_off2 (i : grid0.Coords) : Fin 4 → Nat :=
  let c1_111 : Index := 1#32
  let arg0 : BitVec 32 := BitVec.ofNat 32 (i 0).val
  let v308 : Index := Scalar.indexCast arg0
  let arg1 : BitVec 32 := BitVec.ofNat 32 (i 1).val
  let c16_i32_110 : BitVec 32 := 16#32
  let v307 : BitVec 32 := Scalar.muli arg1 c16_i32_110
  let v309 : Index := Scalar.indexCast v307
  let c0_112 : Index := 0#32
  ![1, v308.toNat, v309.toNat, 0]
def k0_off3 (i : grid0.Coords) : Fin 4 → Nat :=
  let c2_173 : Index := 2#32
  let arg0 : BitVec 32 := BitVec.ofNat 32 (i 0).val
  let v466 : Index := Scalar.indexCast arg0
  let arg1 : BitVec 32 := BitVec.ofNat 32 (i 1).val
  let c16_i32_172 : BitVec 32 := 16#32
  let v465 : BitVec 32 := Scalar.muli arg1 c16_i32_172
  let v467 : Index := Scalar.indexCast v465
  let c0_174 : Index := 0#32
  ![2, v466.toNat, v467.toNat, 0]
def k0_off4 (i : grid0.Coords) : Fin 4 → Nat :=
  let c3 : Index := 3#32
  let arg0 : BitVec 32 := BitVec.ofNat 32 (i 0).val
  let v624 : Index := Scalar.indexCast arg0
  let arg1 : BitVec 32 := BitVec.ofNat 32 (i 1).val
  let c16_i32_234 : BitVec 32 := 16#32
  let v623 : BitVec 32 := Scalar.muli arg1 c16_i32_234
  let v625 : Index := Scalar.indexCast v623
  let c0_235 : Index := 0#32
  ![3, v624.toNat, v625.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, arg1.toNat, c0_i32_1.toNat]

def cc0_transform_1 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![v0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  let c0_i32_0 : BitVec 32 := 0#32
  let c0_i32_1 : BitVec 32 := 0#32
  ![v0.toNat, c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.muli c2_i32 v0
  let v2 : BitVec 32 := Scalar.addi v1 arg1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c2_i32 : BitVec 32 := 2#32
  let v1 : BitVec 32 := Scalar.muli c2_i32 v0
  let v2 : BitVec 32 := Scalar.addi v1 arg1
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c2_i32 : BitVec 32 := 2#32
  let v1 : BitVec 32 := Scalar.muli c2_i32 v0
  let v2 : BitVec 32 := Scalar.addi v1 arg1
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c2_i32 : BitVec 32 := 2#32
  let v1 : BitVec 32 := Scalar.muli c2_i32 v0
  let v2 : BitVec 32 := Scalar.addi v1 arg1
  let c0_i32 : BitVec 32 := 0#32
  let c0_i32_0 : BitVec 32 := 0#32
  ![v2.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x3x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S4x16x32x32 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S64x1024x512 : Shape := ⟨3, ![64, 1024, 512]⟩
abbrev S64x3x512x512 : Shape := ⟨4, ![64, 3, 512, 512]⟩
abbrev S64x1024 : Shape := ⟨2, ![64, 1024]⟩
abbrev S_ : Shape := ⟨0, ![]⟩
abbrev S64x3x32x16x32x16 : Shape := ⟨6, ![64, 3, 32, 16, 32, 16]⟩
abbrev S64x3x32x32 : Shape := ⟨4, ![64, 3, 32, 32]⟩
abbrev S64x32x32x3 : Shape := ⟨4, ![64, 32, 32, 3]⟩
abbrev S64x1024x3 : Shape := ⟨3, ![64, 1024, 3]⟩
abbrev S7 : Shape := ⟨1, ![7]⟩
abbrev S64x1024x3x1 : Shape := ⟨4, ![64, 1024, 3, 1]⟩
abbrev S1x1x1x7 : Shape := ⟨4, ![1, 1, 1, 7]⟩
abbrev S64x1024x3x7 : Shape := ⟨4, ![64, 1024, 3, 7]⟩
abbrev S3 : Shape := ⟨1, ![3]⟩
abbrev S1x1x3 : Shape := ⟨3, ![1, 1, 3]⟩
abbrev S64x1024x1 : Shape := ⟨3, ![64, 1024, 1]⟩
abbrev S64x1024x1x1 : Shape := ⟨4, ![64, 1024, 1, 1]⟩
abbrev S1 : Shape := ⟨1, ![1]⟩
abbrev S1x1x1x1 : Shape := ⟨4, ![1, 1, 1, 1]⟩

abbrev nBuf : Space → Nat
  | .hbm => 176
  | .vmem => 0
  | .smem => 0
  | _ => 0

abbrev hbmTy0_0 (i : Nat) : BufTy := match i % 128 with
  | 0 => ⟨S64x1024x512, .f32⟩
  | 1 => ⟨S64x3x512x512, .f32⟩
  | 2 => ⟨S64x1024, .i1⟩
  | 3 => ⟨S_, .f32⟩
  | 4 => ⟨S64x3x512x512, .f32⟩
  | 5 => ⟨S64x3x512x512, .f32⟩
  | 6 => ⟨S64x3x32x16x32x16, .f32⟩
  | 7 => ⟨S_, .f32⟩
  | 8 => ⟨S64x3x32x32, .f32⟩
  | 9 => ⟨S_, .f32⟩
  | 10 => ⟨S64x3x32x32, .f32⟩
  | 11 => ⟨S64x3x32x32, .f32⟩
  | 12 => ⟨S64x32x32x3, .f32⟩
  | 13 => ⟨S64x1024x3, .f32⟩
  | 14 => ⟨S7, .f32⟩
  | 15 => ⟨S_, .f32⟩
  | 16 => ⟨S7, .f32⟩
  | 17 => ⟨S7, .f32⟩
  | 18 => ⟨S_, .f32⟩
  | 19 => ⟨S7, .f32⟩
  | 20 => ⟨S7, .f32⟩
  | 21 => ⟨S64x1024x3x1, .f32⟩
  | 22 => ⟨S1x1x1x7, .f32⟩
  | 23 => ⟨S64x1024x3x7, .f32⟩
  | 24 => ⟨S64x1024x3x7, .f32⟩
  | 25 => ⟨S64x1024x3x7, .i1⟩
  | 26 => ⟨S64x1024x3x7, .i32⟩
  | 27 => ⟨S_, .i32⟩
  | 28 => ⟨S64x1024x3, .i32⟩
  | 29 => ⟨S3, .i32⟩
  | 30 => ⟨S_, .i32⟩
  | 31 => ⟨S_, .i32⟩
  | 32 => ⟨S_, .i1⟩
  | 33 => ⟨S_, .i32⟩
  | 34 => ⟨S3, .i32⟩
  | 35 => ⟨S3, .i1⟩
  | 36 => ⟨S3, .i1⟩
  | 37 => ⟨S3, .i1⟩
  | 38 => ⟨S_, .i32⟩
  | 39 => ⟨S_, .i32⟩
  | 40 => ⟨S3, .i32⟩
  | 41 => ⟨S3, .i32⟩
  | 42 => ⟨S3, .i32⟩
  | 43 => ⟨S_, .i32⟩
  | 44 => ⟨S3, .i32⟩
  | 45 => ⟨S3, .i32⟩
  | 46 => ⟨S_, .i32⟩
  | 47 => ⟨S3, .i32⟩
  | 48 => ⟨S3, .i32⟩
  | 49 => ⟨S_, .i32⟩
  | 50 => ⟨S3, .i32⟩
  | 51 => ⟨S3, .i1⟩
  | 52 => ⟨S3, .i32⟩
  | 53 => ⟨S_, .i32⟩
  | 54 => ⟨S_, .i32⟩
  | 55 => ⟨S_, .i32⟩
  | 56 => ⟨S_, .i32⟩
  | 57 => ⟨S3, .i32⟩
  | 58 => ⟨S3, .i32⟩
  | 59 => ⟨S_, .i32⟩
  | 60 => ⟨S3, .i32⟩
  | 61 => ⟨S3, .i32⟩
  | 62 => ⟨S3, .i32⟩
  | 63 => ⟨S3, .i32⟩
  | 64 => ⟨S_, .i32⟩
  | 65 => ⟨S3, .i32⟩
  | 66 => ⟨S3, .i1⟩
  | 67 => ⟨S3, .i32⟩
  | 68 => ⟨S_, .i32⟩
  | 69 => ⟨S_, .i32⟩
  | 70 => ⟨S3, .i32⟩
  | 71 => ⟨S3, .i32⟩
  | 72 => ⟨S_, .i32⟩
  | 73 => ⟨S3, .i32⟩
  | 74 => ⟨S3, .i32⟩
  | 75 => ⟨S3, .i32⟩
  | 76 => ⟨S3, .i32⟩
  | 77 => ⟨S_, .i32⟩
  | 78 => ⟨S3, .i32⟩
  | 79 => ⟨S3, .i1⟩
  | 80 => ⟨S3, .i32⟩
  | 81 => ⟨S_, .i32⟩
  | 82 => ⟨S_, .i32⟩
  | 83 => ⟨S3, .i32⟩
  | 84 => ⟨S3, .i32⟩
  | 85 => ⟨S_, .i32⟩
  | 86 => ⟨S3, .i32⟩
  | 87 => ⟨S3, .i32⟩
  | 88 => ⟨S3, .i32⟩
  | 89 => ⟨S3, .i32⟩
  | 90 => ⟨S_, .i32⟩
  | 91 => ⟨S3, .i32⟩
  | 92 => ⟨S3, .i1⟩
  | 93 => ⟨S3, .i32⟩
  | 94 => ⟨S_, .i32⟩
  | 95 => ⟨S_, .i32⟩
  | 96 => ⟨S3, .i32⟩
  | 97 => ⟨S3, .i32⟩
  | 98 => ⟨S_, .i32⟩
  | 99 => ⟨S3, .i32⟩
  | 100 => ⟨S3, .i32⟩
  | 101 => ⟨S3, .i32⟩
  | 102 => ⟨S3, .i32⟩
  | 103 => ⟨S_, .i32⟩
  | 104 => ⟨S3, .i32⟩
  | 105 => ⟨S3, .i1⟩
  | 106 => ⟨S3, .i32⟩
  | 107 => ⟨S_, .i32⟩
  | 108 => ⟨S_, .i32⟩
  | 109 => ⟨S3, .i32⟩
  | 110 => ⟨S3, .i32⟩
  | 111 => ⟨S_, .i32⟩
  | 112 => ⟨S3, .i32⟩
  | 113 => ⟨S3, .i32⟩
  | 114 => ⟨S3, .i32⟩
  | 115 => ⟨S3, .i32⟩
  | 116 => ⟨S_, .i32⟩
  | 117 => ⟨S3, .i32⟩
  | 118 => ⟨S3, .i1⟩
  | 119 => ⟨S3, .i32⟩
  | 120 => ⟨S_, .i32⟩
  | 121 => ⟨S_, .i32⟩
  | 122 => ⟨S3, .i32⟩
  | 123 => ⟨S3, .i32⟩
  | 124 => ⟨S1x1x3, .i32⟩
  | 125 => ⟨S64x1024x3, .i32⟩
  | 126 => ⟨S64x1024x3, .i32⟩
  | 127 => ⟨S_, .i32⟩
  | _ => ⟨S64x1024x512, .f32⟩

abbrev hbmTy0_1 (i : Nat) : BufTy := match i % 128 with
  | 0 => ⟨S64x1024, .i32⟩
  | 1 => ⟨S_, .f32⟩
  | 2 => ⟨S64x1024, .f32⟩
  | 3 => ⟨S_, .f32⟩
  | 4 => ⟨S64x1024, .f32⟩
  | 5 => ⟨S64x1024, .f32⟩
  | 6 => ⟨S64x1024x1, .f32⟩
  | 7 => ⟨S64x1024x512, .f32⟩
  | 8 => ⟨S64x1024x512, .f32⟩
  | 9 => ⟨S64x1024x512, .f32⟩
  | 10 => ⟨S_, .f32⟩
  | 11 => ⟨S64x1024, .f32⟩
  | 12 => ⟨S64x1024x1, .f32⟩
  | 13 => ⟨S64x1024x1, .f32⟩
  | 14 => ⟨S64x1024x512, .f32⟩
  | 15 => ⟨S64x1024x512, .f32⟩
  | 16 => ⟨S64x1024x1, .i32⟩
  | 17 => ⟨S_, .i32⟩
  | 18 => ⟨S64x1024x1, .i32⟩
  | 19 => ⟨S64x1024x1, .i1⟩
  | 20 => ⟨S_, .i32⟩
  | 21 => ⟨S64x1024x1, .i32⟩
  | 22 => ⟨S64x1024x1, .i32⟩
  | 23 => ⟨S64x1024x1, .i32⟩
  | 24 => ⟨S64x1024x1x1, .i32⟩
  | 25 => ⟨S1, .i32⟩
  | 26 => ⟨S_, .i32⟩
  | 27 => ⟨S64x1024x1x1, .i32⟩
  | 28 => ⟨S64x1024x1x1, .i1⟩
  | 29 => ⟨S1x1x1x1, .i32⟩
  | 30 => ⟨S64x1024x1x1, .i32⟩
  | 31 => ⟨S64x1024x1x1, .i1⟩
  | 32 => ⟨S64x1024x1x1, .i1⟩
  | 33 => ⟨S_, .i1⟩
  | 34 => ⟨S64x1024x1, .i1⟩
  | 35 => ⟨S64x1024x1, .f32⟩
  | 36 => ⟨S_, .f32⟩
  | 37 => ⟨S64x1024x1, .f32⟩
  | 38 => ⟨S64x1024x1, .f32⟩
  | 39 => ⟨S64x1024, .f32⟩
  | 40 => ⟨S64x1024, .f32⟩
  | 41 => ⟨S64x1024, .f32⟩
  | 42 => ⟨S64x1024, .f32⟩
  | 43 => ⟨S_, .f32⟩
  | 44 => ⟨S_, .f32⟩
  | 45 => ⟨S_, .f32⟩
  | 46 => ⟨S_, .f32⟩
  | 47 => ⟨S_, .f32⟩
  | _ => ⟨S64x1024x512, .f32⟩

abbrev hbmTy (i : Nat) : BufTy := match i / 128 with
  | 0 => hbmTy0_0 i
  | 1 => hbmTy0_1 i
  | _ => ⟨S64x1024x512, .f32⟩

abbrev bufTy : (tb : Table) → Fin (tcTables nBuf tb) → BufTy
  | .hbm, ⟨i, _⟩ => hbmTy i
  | _, _ => ⟨S64x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_c_5 : Ref sig .tc := ⟨.hbm, 31, rfl⟩
abbrev main_v21 : Ref sig .tc := ⟨.hbm, 32, rfl⟩
abbrev main_c_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_7 : Ref sig .tc := ⟨.hbm, 38, rfl⟩
abbrev main_c_8 : Ref sig .tc := ⟨.hbm, 39, rfl⟩
abbrev main_call0_v0 : Ref sig .tc := ⟨.hbm, 40, rfl⟩
abbrev main_call0_v1 : Ref sig .tc := ⟨.hbm, 41, rfl⟩
abbrev main_v26 : Ref sig .tc := ⟨.hbm, 42, rfl⟩
abbrev main_c_9 : Ref sig .tc := ⟨.hbm, 43, rfl⟩
abbrev main_v27 : Ref sig .tc := ⟨.hbm, 44, rfl⟩
abbrev main_v28 : Ref sig .tc := ⟨.hbm, 45, rfl⟩
abbrev main_c_10 : Ref sig .tc := ⟨.hbm, 46, rfl⟩
abbrev main_v29 : Ref sig .tc := ⟨.hbm, 47, rfl⟩
abbrev main_v30 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_v31 : Ref sig .tc := ⟨.hbm, 52, rfl⟩
abbrev main_c_11 : Ref sig .tc := ⟨.hbm, 53, rfl⟩
abbrev main_c_12 : Ref sig .tc := ⟨.hbm, 54, rfl⟩
abbrev main_v32 : Ref sig .tc := ⟨.hbm, 55, rfl⟩
abbrev main_c_13 : Ref sig .tc := ⟨.hbm, 56, rfl⟩
abbrev main_v33 : Ref sig .tc := ⟨.hbm, 57, rfl⟩
abbrev main_v34 : Ref sig .tc := ⟨.hbm, 58, rfl⟩
abbrev main_c_14 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_v39 : Ref sig .tc := ⟨.hbm, 67, rfl⟩
abbrev main_v40 : Ref sig .tc := ⟨.hbm, 68, rfl⟩
abbrev main_c_15 : Ref sig .tc := ⟨.hbm, 69, rfl⟩
abbrev main_v41 : Ref sig .tc := ⟨.hbm, 70, rfl⟩
abbrev main_v42 : Ref sig .tc := ⟨.hbm, 71, rfl⟩
abbrev main_c_16 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_call3_c : Ref sig .tc := ⟨.hbm, 77, rfl⟩
abbrev main_call3_v0 : Ref sig .tc := ⟨.hbm, 78, rfl⟩
abbrev main_call3_v1 : Ref sig .tc := ⟨.hbm, 79, rfl⟩
abbrev main_v47 : Ref sig .tc := ⟨.hbm, 80, rfl⟩
abbrev main_v48 : Ref sig .tc := ⟨.hbm, 81, rfl⟩
abbrev main_c_17 : Ref sig .tc := ⟨.hbm, 82, rfl⟩
abbrev main_v49 : Ref sig .tc := ⟨.hbm, 83, rfl⟩
abbrev main_v50 : Ref sig .tc := ⟨.hbm, 84, rfl⟩
abbrev main_c_18 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_call4_c : Ref sig .tc := ⟨.hbm, 90, rfl⟩
abbrev main_call4_v0 : Ref sig .tc := ⟨.hbm, 91, rfl⟩
abbrev main_call4_v1 : Ref sig .tc := ⟨.hbm, 92, rfl⟩
abbrev main_v55 : Ref sig .tc := ⟨.hbm, 93, rfl⟩
abbrev main_v56 : Ref sig .tc := ⟨.hbm, 94, rfl⟩
abbrev main_c_19 : Ref sig .tc := ⟨.hbm, 95, rfl⟩
abbrev main_v57 : Ref sig .tc := ⟨.hbm, 96, rfl⟩
abbrev main_v58 : Ref sig .tc := ⟨.hbm, 97, rfl⟩
abbrev main_c_20 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_call5_c : Ref sig .tc := ⟨.hbm, 103, rfl⟩
abbrev main_call5_v0 : Ref sig .tc := ⟨.hbm, 104, rfl⟩
abbrev main_call5_v1 : Ref sig .tc := ⟨.hbm, 105, rfl⟩
abbrev main_v63 : Ref sig .tc := ⟨.hbm, 106, rfl⟩
abbrev main_v64 : Ref sig .tc := ⟨.hbm, 107, rfl⟩
abbrev main_c_21 : Ref sig .tc := ⟨.hbm, 108, rfl⟩
abbrev main_v65 : Ref sig .tc := ⟨.hbm, 109, rfl⟩
abbrev main_v66 : Ref sig .tc := ⟨.hbm, 110, rfl⟩
abbrev main_c_22 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_call6_c : Ref sig .tc := ⟨.hbm, 116, rfl⟩
abbrev main_call6_v0 : Ref sig .tc := ⟨.hbm, 117, rfl⟩
abbrev main_call6_v1 : Ref sig .tc := ⟨.hbm, 118, rfl⟩
abbrev main_v71 : Ref sig .tc := ⟨.hbm, 119, rfl⟩
abbrev main_v72 : Ref sig .tc := ⟨.hbm, 120, rfl⟩
abbrev main_c_23 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_c_24 : Ref sig .tc := ⟨.hbm, 127, rfl⟩
abbrev main_v78 : Ref sig .tc := ⟨.hbm, 128, rfl⟩
abbrev main_call7_cst : Ref sig .tc := ⟨.hbm, 129, rfl⟩
abbrev main_call7_v0 : Ref sig .tc := ⟨.hbm, 130, rfl⟩
abbrev main_call7_cst_0 : Ref sig .tc := ⟨.hbm, 131, rfl⟩
abbrev main_call7_v1 : Ref sig .tc := ⟨.hbm, 132, rfl⟩
abbrev main_call7_v2 : Ref sig .tc := ⟨.hbm, 133, rfl⟩
abbrev main_call7_v3 : Ref sig .tc := ⟨.hbm, 134, rfl⟩
abbrev main_call7_v4 : Ref sig .tc := ⟨.hbm, 135, rfl⟩
abbrev main_call7_v5 : Ref sig .tc := ⟨.hbm, 136, rfl⟩
abbrev main_call7_v6 : Ref sig .tc := ⟨.hbm, 137, rfl⟩
abbrev main_call7_cst_1 : Ref sig .tc := ⟨.hbm, 138, rfl⟩
abbrev main_call7_v7 : Ref sig .tc := ⟨.hbm, 139, rfl⟩
abbrev main_call7_v8 : Ref sig .tc := ⟨.hbm, 140, rfl⟩
abbrev main_call7_v9 : Ref sig .tc := ⟨.hbm, 141, rfl⟩
abbrev main_call7_v10 : Ref sig .tc := ⟨.hbm, 142, rfl⟩
abbrev main_v79 : Ref sig .tc := ⟨.hbm, 143, rfl⟩
abbrev main_v80 : Ref sig .tc := ⟨.hbm, 144, rfl⟩
abbrev main_call8_c : Ref sig .tc := ⟨.hbm, 145, rfl⟩
abbrev main_call8_v0 : Ref sig .tc := ⟨.hbm, 146, rfl⟩
abbrev main_call8_v1 : Ref sig .tc := ⟨.hbm, 147, rfl⟩
abbrev main_call8_c_0 : Ref sig .tc := ⟨.hbm, 148, rfl⟩
abbrev main_call8_v2 : Ref sig .tc := ⟨.hbm, 149, rfl⟩
abbrev main_call8_v3 : Ref sig .tc := ⟨.hbm, 150, rfl⟩
abbrev main_call8_v4 : Ref sig .tc := ⟨.hbm, 151, rfl⟩
abbrev main_call8_v5 : Ref sig .tc := ⟨.hbm, 152, rfl⟩
abbrev main_call8_c_1 : Ref sig .tc := ⟨.hbm, 153, rfl⟩
abbrev main_call8_c_2 : Ref sig .tc := ⟨.hbm, 154, rfl⟩
abbrev main_call8_v6 : Ref sig .tc := ⟨.hbm, 155, rfl⟩
abbrev main_call8_v7 : Ref sig .tc := ⟨.hbm, 156, rfl⟩
abbrev main_call8_v8 : Ref sig .tc := ⟨.hbm, 157, rfl⟩
abbrev main_call8_v9 : Ref sig .tc := ⟨.hbm, 158, rfl⟩
abbrev main_call8_v10 : Ref sig .tc := ⟨.hbm, 159, rfl⟩
abbrev main_call8_v11 : Ref sig .tc := ⟨.hbm, 160, rfl⟩
abbrev main_call8_c_3 : Ref sig .tc := ⟨.hbm, 161, rfl⟩
abbrev main_call8_v12 : Ref sig .tc := ⟨.hbm, 162, rfl⟩
abbrev main_call8_v13 : Ref sig .tc := ⟨.hbm, 163, rfl⟩
abbrev main_call8_cst : Ref sig .tc := ⟨.hbm, 164, rfl⟩
abbrev main_call8_v14 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_cst_25 : Ref sig .tc := ⟨.hbm, 171, rfl⟩
abbrev main_v86 : Ref sig .tc := ⟨.hbm, 172, rfl⟩
abbrev main_cst_26 : Ref sig .tc := ⟨.hbm, 173, rfl⟩
abbrev main_v87 : Ref sig .tc := ⟨.hbm, 174, rfl⟩
abbrev main_v88 : Ref sig .tc := ⟨.hbm, 175, rfl⟩

abbrev nD : Nat := 1
abbrev τ : Topo := Topo.v7x

variable {F : FTy → Type} [FloatOps F]
-- ==== Proof.Stream.lean ====
/- What one grid point of the kernel computes, written once for a stream: the digit of a channel, the label of a patch,
   the masked label, the loss and the mask count a stream adds. `out9_eq` and `out10_eq` say that the body's two
   outputs are these, folded over the four streams. -/
module

public import proofs.«01_k».proof.Proof.Gen.KernelIdeal.Frame
public import Idealize.ShloMosaic.Lib.Pipeline.ValueKit

@[expose] public section

set_option maxRecDepth 16384

noncomputable section

namespace Cert.Proof.Stream

open Idealize.ShloMosaic Idealize.ShloMosaic.TcCoe Idealize.ShloMosaic.Tactic Idealize.SL.Sem
open Cert.KernelIdeal Cert.KernelIdeal.Gen

variable {F : FTy → Type} [FloatOps F]

/-- One channel of a half image, its values capped at one, summed over the sixteen rows of each patch. -/
def rowSums (x : Vec F S1x1x256x512 .f32) : FVec F S16x512 .f32 :=
  multiReduction .add [1] S16x512
    (shapeCast S16x16x512
      (minimumf (shapeCast S256x512 x shapeCasts_S1x1x256x512_S256x512) (broadcast S256x512 (Scalar.ofBits .f32 0x3F800000#32)))
      shapeCasts_S256x512_S16x16x512) 0x00000000#32 reduces_S16x16x512_S16x512 (.inl rfl) rfl

/-- The sum over each patch: the row sums against the zero-one matrix that says which patch a column belongs to. -/
def patchSums (x : Vec F S1x1x256x512 .f32) : FVec F S16x32 .f32 :=
  matmul dot_S16x512_S512x32_S16x32_1_0_0_1_n_n (some .fp32) (rowSums x) (k0_pay4 (F := F)) (constant S16x32 .f32 0x00000000#32)

/-- One where a patch's sum exceeds the threshold the bits spell, zero elsewhere. -/
def above (p : FVec F S16x32 .f32) (bits : BitVec 32) : IVec S16x32 32 :=
  extui 32 (cmpf .ogt p (broadcast S16x32 (Scalar.ofBits .f32 bits))) natLt_1_32

/-- How many of the seven thresholds 32, 64, …, 224 a patch's sum exceeds. -/
def digit (p : FVec F S16x32 .f32) : IVec S16x32 32 :=
  addi (addi (addi (addi (addi (addi (addi (broadcast S16x32 0#32) (above p 0x42000000#32)) (above p 0x42800000#32))
    (above p 0x42C00000#32)) (above p 0x43000000#32)) (above p 0x43200000#32)) (above p 0x43400000#32)) (above p 0x43600000#32)

/-- The label of a patch: its three channels' digits, in base eight. -/
def label (x0 x1 x2 : Vec F S1x1x256x512 .f32) : IVec S16x32 32 :=
  addi (addi (addi (broadcast S16x32 0#32) (muli (digit (patchSums x0)) (broadcast S16x32 1#32)))
    (muli (digit (patchSums x1)) (broadcast S16x32 8#32))) (muli (digit (patchSums x2)) (broadcast S16x32 64#32))

/-- The label where the mask is set, minus one where it is not. -/
def maskedLabel (l : IVec S16x32 32) (k : Vec F S1x1x16x32 .i32) : IVec S16x32 32 :=
  select (cmpi .ne (shapeCast S16x32 k shapeCasts_S1x1x16x32_S16x32) (broadcast S16x32 0#32)) l (broadcast S16x32 4294967295#32)

/-- The rows of predictions, as a row per patch. -/
def rows (p : Vec F S512x512 .f32) : FVec F S16x32x512 .f32 :=
  shapeCast S16x32x512 (shapeCast S512x512 p shapeCasts_S512x512_S512x512) shapeCasts_S512x512_S16x32x512

/-- The logarithm of the sum of the exponentials of a row. -/
def logSum (p : Vec F S512x512 .f32) : FVec F S16x32 .f32 :=
  log (multiReduction .add [2] S16x32 (exp (rows p)) 0x00000000#32 reduces_S16x32x512_S16x32 (.inl rfl) rfl)

/-- The entry of a row that the masked label names, zero where it names none. -/
def picked (l : IVec S16x32 32) (p : Vec F S512x512 .f32) : FVec F S16x32 .f32 :=
  multiReduction .add [2] S16x32
    (select (cmpi .eq (iota .tc S16x32x512 32 [2] iota_S16x32x512_d2_w32)
        (broadcastTo S16x32x512 (shapeCast S16x32x1 l shapeCasts_S16x32_S16x32x1) broadcasts_S16x32x1_S16x32x512))
      (rows p) (broadcast S16x32x512 (Scalar.ofBits .f32 0x00000000#32)))
    0x00000000#32 reduces_S16x32x512_S16x32 (.inl rfl) rfl

/-- One where the masked label is a label, zero where it is minus one. -/
def kept (l : IVec S16x32 32) : FVec F S16x32 .f32 :=
  sitofp .f32 (extui 32 (cmpi .sge l (broadcast S16x32 0#32)) natLt_1_32)

/-- The sum of a whole block, as a one-entry array added to `s`. -/
def addSum (s : FVec F S1x1x1x1 .f32) (v : FVec F S16x32 .f32) : FVec F S1x1x1x1 .f32 :=
  addf s (broadcast S1x1x1x1 (extractAt ![0, 0, 0] (shapeCast S1x1x1
    (multiReduction .add [1, 2] S1 (shapeCast S1x16x32 v shapeCasts_S16x32_S1x16x32) 0x00000000#32 reduces_S1x16x32_S1 (.inl rfl) rfl)
    shapeCasts_S1_S1x1x1) inpos_S1x1x1_p0_0_0))

/-- The loss a stream adds to `s`. -/
def lossStep (s : FVec F S1x1x1x1 .f32) (l : IVec S16x32 32) (p : Vec F S512x512 .f32) : FVec F S1x1x1x1 .f32 :=
  addSum s (mulf (kept l) (subf (logSum p) (picked l p)))

/-- The number of kept patches a stream adds to `s`. -/
def countStep (s : FVec F S1x1x1x1 .f32) (l : IVec S16x32 32) : FVec F S1x1x1x1 .f32 := addSum s (kept l)

/-- The sums' start, zero. -/
def start : FVec F S1x1x1x1 .f32 := broadcast S1x1x1x1 (Scalar.ofBits .f32 0x00000000#32)

/-- Channel `ch` of a half image. -/
def chan0 (x : Vec F S1x3x256x512 .f32) : Vec F S1x1x256x512 .f32 :=
  View.ld x (Rect.unit (s := S1x3x256x512) ![0, 0, 0, 0] S1x1x256x512.size inb_S1x3x256x512_S1x1x256x512_0_0_0_0)
/-- The second channel. -/
def chan1 (x : Vec F S1x3x256x512 .f32) : Vec F S1x1x256x512 .f32 :=
  View.ld x (Rect.unit (s := S1x3x256x512) ![0, 1, 0, 0] S1x1x256x512.size inb_S1x3x256x512_S1x1x256x512_0_1_0_0)
/-- The third channel. -/
def chan2 (x : Vec F S1x3x256x512 .f32) : Vec F S1x1x256x512 .f32 :=
  View.ld x (Rect.unit (s := S1x3x256x512) ![0, 2, 0, 0] S1x1x256x512.size inb_S1x3x256x512_S1x1x256x512_0_2_0_0)

/-- The label of a half image's patches. -/
def labelOf (x : Vec F S1x3x256x512 .f32) : IVec S16x32 32 := label (chan0 x) (chan1 x) (chan2 x)

/-- The masked labels of the four streams at a grid point. -/
def ml0 (i : grid0.Coords) (x : Vec F S1x3x256x512 .f32) (k : Vec F S4x16x32x32 .i32) : IVec S16x32 32 :=
  maskedLabel (F := F) (labelOf x) (View.ld k (Rect.unit (s := S4x16x32x32) (k0_off1 i) S1x1x16x32.size (k0_off1_inb i)))
/-- The second stream's. -/
def ml1 (i : grid0.Coords) (x : Vec F S1x3x256x512 .f32) (k : Vec F S4x16x32x32 .i32) : IVec S16x32 32 :=
  maskedLabel (F := F) (labelOf x) (View.ld k (Rect.unit (s := S4x16x32x32) (k0_off2 i) S1x1x16x32.size (k0_off2_inb i)))
/-- The third stream's. -/
def ml2 (i : grid0.Coords) (x : Vec F S1x3x256x512 .f32) (k : Vec F S4x16x32x32 .i32) : IVec S16x32 32 :=
  maskedLabel (F := F) (labelOf x) (View.ld k (Rect.unit (s := S4x16x32x32) (k0_off3 i) S1x1x16x32.size (k0_off3_inb i)))
/-- The fourth stream's. -/
def ml3 (i : grid0.Coords) (x : Vec F S1x3x256x512 .f32) (k : Vec F S4x16x32x32 .i32) : IVec S16x32 32 :=
  maskedLabel (F := F) (labelOf x) (View.ld k (Rect.unit (s := S4x16x32x32) (k0_off4 i) S1x1x16x32.size (k0_off4_inb i)))

variable (c : Dev nD) (i : grid0.Coords)
  (a2 : Memref sig .tc .vmem S1x3x256x512 .f32) (h2 : a2.IsWhole) (a3 : Memref sig .tc .vmem S1x3x256x512 .f32) (h3 : a3.IsWhole)
  (a4 : Memref sig .tc .vmem S1x3x256x512 .f32) (h4 : a4.IsWhole) (a5 : Memref sig .tc .vmem S1x3x256x512 .f32) (h5 : a5.IsWhole)
  (a6 : Memref sig .tc .vmem S512x512 .f32) (h6 : a6.IsWhole) (a7 : Memref sig .tc .vmem S512x512 .f32) (h7 : a7.IsWhole)
  (a8 : Memref sig .tc .vmem S512x512 .f32) (h8 : a8.IsWhole) (a9 : Memref sig .tc .vmem S512x512 .f32) (h9 : a9.IsWhole)
  (a10 : Memref sig .tc .vmem S4x16x32x32 .i32) (h10 : a10.IsWhole)
  (a11 : Memref sig .tc .vmem S1x1x1x1 .f32) (h11 : a11.IsWhole) (a12 : Memref sig .tc .vmem S1x1x1x1 .f32) (h12 : a12.IsWhole)
  (x0 x1 x2 x3 : Vec F S1x3x256x512 .f32) (x4 x5 x6 x7 : Vec F S512x512 .f32) (x8 : Vec F S4x16x32x32 .i32)

/-- Four zero offsets, however spelt. -/
theorem zero4 : (![0, 0, 0, 0] : Fin 4 → Nat) = fun _ => 0 := funext fun a => by fin_cases a <;> rfl
/-- Two zero offsets. -/
theorem zero2 : (![0, 0] : Fin 2 → Nat) = fun _ => 0 := funext fun a => by fin_cases a <;> rfl

/-- The loss a grid point leaves: the four streams' losses, added in order. -/
theorem out9_eq : out0_A_9 c i a2 h2 a3 h3 a4 h4 a5 h5 a6 h6 a7 h7 a8 h8 a9 h9 a10 h10 a11 h11 a12 h12 x0 x1 x2 x3 x4 x5 x6 x7 x8
    = lossStep (lossStep (lossStep (lossStep start (ml0 i x0 x8) x4) (ml1 i x1 x8) x5) (ml2 i x2 x8) x6) (ml3 i x3 x8) x7 := by
  unfold out0_A_9
  rw [View.read_writes_eq_canon _ _ _ (cover0_A_9 c i a2 h2 a3 h3 a4 h4 a5 h5 a6 h6 a7 h7 a8 h8 a9 h9 a10 h10 a11 h11 a12 h12 x0 x1 x2 x3 x4 x5 x6 x7 x8)]
  unfold kernelRun0_A
  dsimp only
  rw [View.canon_unit_zero zero4]
  sl_unfold_words
  simp only [View.readAt_eq_ld, h2.read_unread, h3.read_unread, h4.read_unread, h5.read_unread, h6.read_unread, h7.read_unread,
    h8.read_unread, h9.read_unread, h10.read_unread, View.ld_unit_zero (S := S512x512) zero2]
  rfl

/-- The mask count a grid point leaves: the four streams' counts, added in order. -/
theorem out10_eq : out0_A_10 c i a2 h2 a3 h3 a4 h4 a5 h5 a6 h6 a7 h7 a8 h8 a9 h9 a10 h10 a11 h11 a12 h12 x0 x1 x2 x3 x4 x5 x6 x7 x8
    = countStep (countStep (countStep (countStep start (ml0 i x0 x8)) (ml1 i x1 x8)) (ml2 i x2 x8)) (ml3 i x3 x8) := by
  unfold out0_A_10
  rw [View.read_writes_eq_canon _ _ _ (cover0_A_10 c i a2 h2 a3 h3 a4 h4 a5 h5 a6 h6 a7 h7 a8 h8 a9 h9 a10 h10 a11 h11 a12 h12 x0 x1 x2 x3 x4 x5 x6 x7 x8)]
  unfold kernelRun0_A
  dsimp only
  rw [View.canon_unit_zero zero4]
  sl_unfold_words
  simp only [View.readAt_eq_ld, h2.read_unread, h3.read_unread, h4.read_unread, h5.read_unread, h6.read_unread, h7.read_unread,
    h8.read_unread, h9.read_unread, h10.read_unread, View.ld_unit_zero (S := S512x512) zero2]
  rfl

end Cert.Proof.Stream

end
-- ==== Proof.Spec.lean ====
/- The common mathematical statement of kernel and reference, over curried arrays: the label of a patch, the loss of a
   row, the weighted sum of losses and the sum of weights; and the identities on extended reals that the two sides meet by. -/
module

public import Idealize.ShloMosaic.PureOps.Ideal.Laws
public import Idealize.ShloMosaic.Lib.IdealHost
public import Idealize.ShloMosaic.Lib.ValueIdxCore

@[expose] public section

set_option maxRecDepth 16384

noncomputable section

namespace Cert.Proof.Spec

open Idealize.ShloMosaic

/-- The `u`-th of sixteen pixels of the patch at position `r` among `n` patches. -/
def pix {n : Nat} (r : Fin n) (u : Fin 16) : Fin (n * 16) := ⟨r.val * 16 + u.val, by have := r.isLt; have := u.isLt; omega⟩

/-- The sum of a channel image, capped at one, over the patch in row `r` and column `q`. -/
def patchSum (t : Fin 512 → Fin 512 → EReal) (r q : Fin 32) : EReal :=
  ∑ u : Fin 16, ∑ v : Fin 16, min (t (pix (n := 32) r u) (pix (n := 32) q v)) 1

/-- How many of the thresholds 32, 64, …, 224 lie below `s`. -/
def level (s : EReal) : Nat := ∑ k : Fin 7, (Ideal.cmp .ogt s (((32 * ((k.val : ℝ) + 1) : ℝ)) : EReal)).toNat

/-- At most seven edges lie below. -/
theorem level_le (s : EReal) : level s ≤ 7 := by
  have h : ∀ k ∈ (Finset.univ : Finset (Fin 7)), (Ideal.cmp .ogt s (((32 * ((k.val : ℝ) + 1) : ℝ)) : EReal)).toNat ≤ 1 :=
    fun k _ => by have := (Ideal.cmp .ogt s (((32 * ((k.val : ℝ) + 1) : ℝ)) : EReal)).isLt; omega
  have := Finset.sum_le_card_nsmul _ _ 1 h
  simpa [level] using this

/-- The label of a patch: the levels of its three channel sums, in base eight. -/
def code (t : Fin 3 → Fin 512 → Fin 512 → EReal) (r q : Fin 32) : Nat :=
  level (patchSum (t 0) r q) + 8 * level (patchSum (t 1) r q) + 64 * level (patchSum (t 2) r q)

/-- A label is below 512. -/
theorem code_lt (t : Fin 3 → Fin 512 → Fin 512 → EReal) (r q : Fin 32) : code t r q < 512 := by
  have h0 := level_le (patchSum (t 0) r q); have h1 := level_le (patchSum (t 1) r q)
  have h2 := level_le (patchSum (t 2) r q); unfold code; omega

/-- The label as a class. -/
def lab (t : Fin 3 → Fin 512 → Fin 512 → EReal) (r q : Fin 32) : Fin 512 := ⟨code t r q, code_lt t r q⟩

/-- The cross entropy of a row of logits against a class: the logarithm of the sum of the exponentials, less the entry. -/
def rowLoss (p : Fin 512 → EReal) (l : Fin 512) : EReal := Ideal.log (∑ c, Ideal.exp (p c)) - p l

/-- A mask bit as a weight. -/
def weight (b : BitVec 1) : EReal := ((b.toNat : ℝ) : EReal)

/-- The patch in row `r` and column `q`, as one index. -/
def patch (r q : Fin 32) : Fin 1024 := ⟨r.val * 32 + q.val, by have := r.isLt; have := q.isLt; omega⟩

/-- The weighted loss of one patch of one image. -/
def term (p : Fin 64 → Fin 1024 → Fin 512 → EReal) (t : Fin 64 → Fin 3 → Fin 512 → Fin 512 → EReal)
    (m : Fin 64 → Fin 1024 → BitVec 1) (b : Fin 64) (r q : Fin 32) : EReal :=
  weight (m b (patch r q)) * rowLoss (p b (patch r q)) (lab (t b) r q)

/-- The sum of the weighted losses. -/
def num (p : Fin 64 → Fin 1024 → Fin 512 → EReal) (t : Fin 64 → Fin 3 → Fin 512 → Fin 512 → EReal)
    (m : Fin 64 → Fin 1024 → BitVec 1) : EReal := ∑ b, ∑ r, ∑ q, term p t m b r q

/-- The sum of the weights. -/
def den (m : Fin 64 → Fin 1024 → BitVec 1) : EReal := ∑ b, ∑ r, ∑ q, weight (m b (patch r q))

/-! ## The row -/

/-- A finite sum of reals, read as extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The log-softmax of an entry, shifted by a bound `M` of the row that some entry attains, is the negated cross entropy. -/
theorem row_loss (p : Fin 512 → EReal) (M : EReal) (hb : M ≠ ⊥) (ht : M ≠ ⊤) (hu : ∀ c, p c ≤ M) (c0 : Fin 512) (h0 : p c0 = M)
    (l : Fin 512) : -((p l - M) - Ideal.log (∑ c, Ideal.exp (p c - M))) = rowLoss p l := by
  lift M to ℝ using ⟨ht, hb⟩
  have key : ∀ c, ∃ e : ℝ, 0 ≤ e ∧ Ideal.exp (p c) = (e : EReal) ∧ Ideal.exp (p c - (M : EReal)) = ((e * Real.exp (-M) : ℝ) : EReal) := by
    intro c
    rcases eq_or_ne (p c) ⊥ with hc | hc
    · exact ⟨0, le_refl _, by rw [hc]; simp, by rw [hc]; simp⟩
    · have hc' : p c ≠ ⊤ := fun h => by have := hu c; rw [h] at this; exact absurd (top_le_iff.1 this) (EReal.coe_ne_top M)
      lift p c to ℝ using ⟨hc', hc⟩ with x
      refine ⟨Real.exp x, (Real.exp_pos x).le, rfl, ?_⟩
      rw [← EReal.coe_sub, Ideal.exp_coe, sub_eq_add_neg, Real.exp_add]
  choose e he h1 h2 using key
  have hpos : 0 < ∑ c, e c := by
    have : 0 < e c0 := by
      have := h1 c0; rw [h0, Ideal.exp_coe, EReal.coe_eq_coe_iff] at this; rw [← this]; exact Real.exp_pos M
    exact lt_of_lt_of_le this (Finset.single_le_sum (fun c _ => he c) (Finset.mem_univ c0))
  have s1 : ∑ c, Ideal.exp (p c) = ((∑ c, e c : ℝ) : EReal) := by rw [← coe_sum]; exact Finset.sum_congr rfl fun c _ => h1 c
  have s2 : ∑ c, Ideal.exp (p c - (M : EReal)) = (((∑ c, e c) * Real.exp (-M) : ℝ) : EReal) := by
    rw [Finset.sum_mul, ← coe_sum]; exact Finset.sum_congr rfl fun c _ => h2 c
  have hpos' : 0 < (∑ c, e c) * Real.exp (-M) := mul_pos hpos (Real.exp_pos _)
  unfold rowLoss
  rw [s1, s2, Ideal.log_coe, Ideal.log_coe, if_neg (not_le.2 hpos), if_neg (not_le.2 hpos'),
    Real.log_mul hpos.ne' (Real.exp_pos _).ne', Real.log_exp]
  rcases eq_or_ne (p l) ⊥ with hl | hl
  · rw [hl]; simp [sub_eq_add_neg]
  · have hl' : p l ≠ ⊤ := fun h => by have := hu l; rw [h] at this; exact absurd (top_le_iff.1 this) (EReal.coe_ne_top M)
    lift p l to ℝ using ⟨hl', hl⟩ with x
    rw [← EReal.coe_sub, ← EReal.coe_sub, ← EReal.coe_sub, ← EReal.coe_neg]
    congr 1; ring

/-! ## The thresholds -/

/-- A mean over 256 pixels exceeds a bin's edge exactly when the sum exceeds the edge's threshold. -/
theorem cmp_bin (k : ℝ) (s : EReal) :
    Ideal.cmp .olt ((((1 : ℝ) / 8 : ℝ) : EReal) + (((1 : ℝ) / 8 : ℝ) : EReal) * (k : EReal)) (Ideal.div s ((256 : ℝ) : EReal))
      = Ideal.cmp .ogt s (((32 * (k + 1) : ℝ)) : EReal) := by
  have h256 : ((256 : ℝ) : EReal) ≠ 0 := by exact_mod_cast (by norm_num : (256 : ℝ) ≠ 0)
  have hp : (0 : EReal) < ((256 : ℝ) : EReal) := by exact_mod_cast (by norm_num : (0 : ℝ) < 256)
  have hd : Ideal.div s ((256 : ℝ) : EReal) = s / ((256 : ℝ) : EReal) := by
    unfold Ideal.div; rw [if_neg h256]; exact (div_eq_mul_inv _ _).symm
  refine congrArg BitVec.ofBool (decide_eq_decide.2 ?_)
  rw [hd, EReal.lt_div_iff hp (EReal.coe_ne_top _), ← EReal.coe_mul, ← EReal.coe_add, ← EReal.coe_mul]
  rw [show ((1 : ℝ) / 8 + 1 / 8 * k) * 256 = 32 * (k + 1) by ring]

/-! ## Sums over a block -/

/-- Blocks of sixteen within `n`, summed, are the whole. -/
theorem sum_pix {M : Type} [AddCommMonoid M] {n : Nat} (f : Fin (n * 16) → M) : ∑ r : Fin n, ∑ u : Fin 16, f (pix r u) = ∑ x, f x := by
  rw [← Finset.sum_product', ← Equiv.sum_comp finProdFinEquiv f]
  exact Finset.sum_congr rfl fun x _ => congrArg f (Fin.ext (by simp only [pix, finProdFinEquiv, Equiv.coe_fn_mk]; omega))

/-- Rows and columns of patches, summed, are the patches. -/
theorem sum_patch {M : Type} [AddCommMonoid M] (f : Fin 1024 → M) : ∑ r : Fin 32, ∑ q : Fin 32, f (patch r q) = ∑ n, f n := by
  rw [← Finset.sum_product', ← Equiv.sum_comp (finProdFinEquiv (m := 32) (n := 32)) f]
  exact Finset.sum_congr rfl fun x _ => congrArg f (Fin.ext (by simp only [patch, finProdFinEquiv, Equiv.coe_fn_mk]; omega))

/-- The image that stream `k` reads at step `i`. -/
def image (k : Fin 4) (i : Fin 16) : Fin 64 := ⟨k.val * 16 + i.val, by have := k.isLt; have := i.isLt; omega⟩

/-- Row `a` of half `j` of an image's rows of patches. -/
def half (j : Fin 2) (a : Fin 16) : Fin 32 := ⟨j.val * 16 + a.val, by have := j.isLt; have := a.isLt; omega⟩

/-- The grid's points, the streams and the rows of a half, summed, are the images and their rows. -/
theorem sum_grid {M : Type} [AddCommMonoid M] (f : Fin 64 → Fin 32 → M) :
    ∑ i : Fin 16, ∑ j : Fin 2, ∑ k : Fin 4, ∑ a : Fin 16, f (image k i) (half j a) = ∑ b, ∑ r, f b r := by
  have h1 : ∀ (k : Fin 4) (i : Fin 16), ∑ j : Fin 2, ∑ a : Fin 16, f (image k i) (half j a) = ∑ r, f (image k i) r :=
    fun k i => sum_pix (n := 2) (fun r => f (image k i) r)
  have h2 : ∑ k : Fin 4, ∑ i : Fin 16, ∑ r, f (image k i) r = ∑ b, ∑ r, f b r := sum_pix (n := 4) (fun b => ∑ r, f b r)
  rw [← h2, Finset.sum_comm]
  refine Eq.trans ?_ (Finset.sum_congr rfl fun k _ => Finset.sum_congr rfl fun i _ => h1 k i)
  rw [Finset.sum_comm]
  rw [Finset.sum_congr rfl fun i _ => Finset.sum_comm, Finset.sum_comm]

/-! ## Words -/

/-- A bit widened is the word of its number. -/
theorem setWidth_bit (b : BitVec 1) : b.setWidth 32 = BitVec.ofNat 32 b.toNat :=
  BitVec.eq_of_toNat_eq (by simp)

end Cert.Proof.Spec

end
-- ==== Proof.Labels.lean ====
/- What one half image's labels are, at the ideal instance: each patch's three channel sums, their levels, and the label
   word of the patch. -/
module

public import proofs.«01_k».proof.Proof.Stream
public import proofs.«01_k».proof.Proof.Spec
public import Idealize.ShloMosaic.Lib.MatmulPlain
public import Idealize.ShloMosaic.Lib.Pipeline.ValueKit

@[expose] public section

set_option maxRecDepth 16384

noncomputable section

namespace Cert.Proof.Stream

open Idealize.ShloMosaic hiding ix1 ix2 ix3 ix4 ix5
open Idealize.ShloMosaic.ValueIdx
open Cert.KernelIdeal Cert.KernelIdeal.Gen Cert.Proof.Spec

/-- A column's row sums: over the sixteen rows of the patch, each pixel capped at one. -/
theorem rowSums_apply (x : Vec Ideal S1x1x256x512 .f32) (a : Fin 16) (w : Fin 512) :
    rowSums x (ix2 a w) = ∑ u : Fin 16, min (x (ix4 0 0 (pix (n := 16) a u) w)) 1 := by
  refine (Ideal.multiReduction_add_single _ _ _ _ _ _).trans (Finset.sum_congr rfl fun u _ => ?_)
  refine (shapeCast_apply _ _ _ (ix2 (pix (n := 16) a u) w) ?_).trans ?_
  · rw [Shape.rowMajor_val_two, Shape.rowMajor_val_three]; rfl
  · refine congrArg₂ min (shapeCast_apply _ _ _ _ ?_) Ideal.ofBits_one_f32
    rw [Shape.rowMajor_val_two, Shape.rowMajor_val_four]; simp

/-- The floored quotient by sixteen, as the body spells it on words. -/
def floorWord (x : BitVec 32) : BitVec 32 :=
  Scalar.select
    (IntOp.andi
      (IntOp.cmpi .ne (IntOp.subi ((IntOp.cmpi .sgt x 0#32).setWidth 32) ((IntOp.cmpi .slt x 0#32).setWidth 32))
        (Scalar.subi (Scalar.extui (Scalar.cmpi .sgt 16#32 0#32)) (Scalar.extui (Scalar.cmpi .slt 16#32 0#32))))
      (IntOp.cmpi .ne (IntOp.remsi .vector x 16#32) 0#32))
    (IntOp.subi (IntOp.divsi .vector x 16#32) 1#32) (IntOp.divsi .vector x 16#32)

/-- The kernel's floor division by 16 of a column's number is the patch's number. -/
theorem floorWord_eq : ∀ w : Fin 512, floorWord (BitVec.ofNat 32 w.val) = BitVec.ofNat 32 (w.val / 16) := by
  decide +kernel

/-- Two small numbers' words compare as the numbers do. -/
theorem cmp_eq_word : ∀ (d q : Fin 32),
    (IntOp.cmpi .eq (BitVec.ofNat 32 d.val) (BitVec.ofNat 32 q.val)).setWidth 32 = if d = q then 1#32 else 0#32 := by
  decide +kernel

/-- The zero-one matrix: one where the column of pixels lies in the column of patches. -/
theorem selector_apply (d : Fin 32) (v : Fin 16) (q : Fin 32) :
    k0_pay4 (F := Ideal) (ix2 (pix (n := 32) d v) q) = if d = q then (1 : EReal) else 0 := by
  have e : k0_pay4 (F := Ideal) (ix2 (pix (n := 32) d v) q)
      = FloatOps.sitofp (F := Ideal) .f32
          ((IntOp.cmpi .eq (floorWord (BitVec.ofNat 32 (0 * 512 + (pix (n := 32) d v).val))) (BitVec.ofNat 32 (0 * 32 + q.val))).setWidth 32) := rfl
  have hd : (pix (n := 32) d v).val / 16 = d.val := by have := v.isLt; simp only [pix]; omega
  rw [e, Nat.zero_mul, Nat.zero_add, Nat.zero_add, floorWord_eq (pix (n := 32) d v), hd, cmp_eq_word]
  split
  · show (((1#32).toInt : ℝ) : EReal) = 1; norm_num
  · show (((0#32).toInt : ℝ) : EReal) = 0; norm_num

/-- A channel's sum over the patch in row `a` and column `q`. -/
theorem patchSums_apply (x : Vec Ideal S1x1x256x512 .f32) (a : Fin 16) (q : Fin 32) :
    patchSums x (ix2 a q) = ∑ u : Fin 16, ∑ v : Fin 16, min (x (ix4 0 0 (pix (n := 16) a u) (pix (n := 32) q v))) 1 := by
  have e : patchSums x (ix2 a q)
      = constant S16x32 .f32 0x00000000#32 (ix2 a q) + ∑ k : Fin 512, rowSums x (ix2 a k) * k0_pay4 (F := Ideal) (ix2 k q) :=
    Ideal.matmul_plain_apply (M := 16) (K := 512) (N := 32) (some .fp32) (rowSums x) (k0_pay4 (F := Ideal)) _ a q
  have z : constant (F := Ideal) S16x32 .f32 0x00000000#32 (ix2 a q) = (0 : EReal) := Ideal.ofBits_zero_f32
  rw [e, z, zero_add, ← sum_pix (n := 32), Finset.sum_comm]
  rw [Finset.sum_comm (γ := Fin 16) (α := Fin 16)]
  have h : ∀ v : Fin 16, ∑ d : Fin 32, rowSums x (ix2 a (pix (n := 32) d v)) * k0_pay4 (F := Ideal) (ix2 (pix (n := 32) d v) q)
      = rowSums x (ix2 a (pix (n := 32) q v)) := fun v => by
    rw [Finset.sum_eq_single q]
    · rw [selector_apply, if_pos rfl, mul_one]
    · intro d _ hd; rw [selector_apply, if_neg hd, mul_zero]
    · intro h; exact absurd (Finset.mem_univ q) h
  refine Finset.sum_congr rfl fun v _ => (h v).trans ?_
  rw [rowSums_apply]

/-- The kernel's threshold 1 of 7. -/
theorem threshold_0 : Ideal.ofBits .f32 0x42000000#32 = ((32 * (((0 : Fin 7).val : ℝ) + 1) : ℝ) : EReal) := by
  simp [Ideal.ofBits, Ideal.ieee, -EReal.coe_mul]; norm_num
/-- The kernel's threshold 2 of 7. -/
theorem threshold_1 : Ideal.ofBits .f32 0x42800000#32 = ((32 * (((1 : Fin 7).val : ℝ) + 1) : ℝ) : EReal) := by
  simp [Ideal.ofBits, Ideal.ieee, -EReal.coe_mul]; norm_num
/-- The kernel's threshold 3 of 7. -/
theorem threshold_2 : Ideal.ofBits .f32 0x42C00000#32 = ((32 * (((2 : Fin 7).val : ℝ) + 1) : ℝ) : EReal) := by
  simp [Ideal.ofBits, Ideal.ieee, -EReal.coe_mul]; norm_num
/-- The kernel's threshold 4 of 7. -/
theorem threshold_3 : Ideal.ofBits .f32 0x43000000#32 = ((32 * (((3 : Fin 7).val : ℝ) + 1) : ℝ) : EReal) := by
  simp [Ideal.ofBits, Ideal.ieee, -EReal.coe_mul]; norm_num
/-- The kernel's threshold 5 of 7. -/
theorem threshold_4 : Ideal.ofBits .f32 0x43200000#32 = ((32 * (((4 : Fin 7).val : ℝ) + 1) : ℝ) : EReal) := by
  simp [Ideal.ofBits, Ideal.ieee, -EReal.coe_mul]; norm_num
/-- The kernel's threshold 6 of 7. -/
theorem threshold_5 : Ideal.ofBits .f32 0x43400000#32 = ((32 * (((5 : Fin 7).val : ℝ) + 1) : ℝ) : EReal) := by
  simp [Ideal.ofBits, Ideal.ieee, -EReal.coe_mul]; norm_num
/-- The kernel's threshold 7 of 7. -/
theorem threshold_6 : Ideal.ofBits .f32 0x43600000#32 = ((32 * (((6 : Fin 7).val : ℝ) + 1) : ℝ) : EReal) := by
  simp [Ideal.ofBits, Ideal.ieee, -EReal.coe_mul]; norm_num

/-- A threshold's word: the bit of the comparison, as a number. -/
theorem above_apply (p : FVec Ideal S16x32 .f32) (bits : BitVec 32) (i : S16x32.Idx) :
    above p bits i = BitVec.ofNat 32 (Ideal.cmp .ogt (p i) (Ideal.ofBits .f32 bits)).toNat := setWidth_bit _

/-- A patch's digit is the level of its sum. -/
theorem digit_apply (p : FVec Ideal S16x32 .f32) (i : S16x32.Idx) : digit p i = BitVec.ofNat 32 (level (p i)) := by
  have e : digit p i = ((((((0#32 + above p 0x42000000#32 i) + above p 0x42800000#32 i) + above p 0x42C00000#32 i)
    + above p 0x43000000#32 i) + above p 0x43200000#32 i) + above p 0x43400000#32 i) + above p 0x43600000#32 i := rfl
  rw [e, above_apply, above_apply, above_apply, above_apply, above_apply, above_apply, above_apply,
    threshold_0, threshold_1, threshold_2, threshold_3, threshold_4, threshold_5, threshold_6]
  unfold level
  rw [Fin.sum_univ_seven]
  simp only [BitVec.ofNat_add, BitVec.zero_add]

/-- A half image's patch at row `a` and column `q` carries the label of its three sums. -/
theorem labelOf_apply (x : Vec Ideal S1x3x256x512 .f32) (t : Fin 3 → Fin 512 → Fin 512 → EReal) (j : Fin 2)
    (hx : ∀ (ch : Fin 3) (a u : Fin 16) (w : Fin 512),
      x (ix4 0 ch (pix (n := 16) a u) w) = t ch (pix (n := 32) (half j a) u) w) (a : Fin 16) (q : Fin 32) :
    labelOf x (ix2 a q) = BitVec.ofNat 32 (lab t (half j a) q).val := by
  have p0 : patchSums (chan0 x) (ix2 a q) = patchSum (t 0) (half j a) q := by
    rw [patchSums_apply]
    refine Finset.sum_congr rfl fun u _ => Finset.sum_congr rfl fun v _ => congrArg (min · 1) ?_
    rw [← hx]
    exact View.ld_unit_apply_of _ _ _ _ _ _ fun ax => by
      match ax with
      | ⟨0, _⟩ => rfl
      | ⟨1, _⟩ => rfl
      | ⟨2, _⟩ => exact (Nat.zero_add _).symm
      | ⟨3, _⟩ => exact (Nat.zero_add _).symm
  have p1 : patchSums (chan1 x) (ix2 a q) = patchSum (t 1) (half j a) q := by
    rw [patchSums_apply]
    refine Finset.sum_congr rfl fun u _ => Finset.sum_congr rfl fun v _ => congrArg (min · 1) ?_
    rw [← hx]
    exact View.ld_unit_apply_of _ _ _ _ _ _ fun ax => by
      match ax with
      | ⟨0, _⟩ => rfl
      | ⟨1, _⟩ => rfl
      | ⟨2, _⟩ => exact (Nat.zero_add _).symm
      | ⟨3, _⟩ => exact (Nat.zero_add _).symm
  have p2 : patchSums (chan2 x) (ix2 a q) = patchSum (t 2) (half j a) q := by
    rw [patchSums_apply]
    refine Finset.sum_congr rfl fun u _ => Finset.sum_congr rfl fun v _ => congrArg (min · 1) ?_
    rw [← hx]
    exact View.ld_unit_apply_of _ _ _ _ _ _ fun ax => by
      match ax with
      | ⟨0, _⟩ => rfl
      | ⟨1, _⟩ => rfl
      | ⟨2, _⟩ => exact (Nat.zero_add _).symm
      | ⟨3, _⟩ => exact (Nat.zero_add _).symm
  have e : labelOf x (ix2 a q) = ((0#32 + digit (patchSums (chan0 x)) (ix2 a q) * 1#32)
      + digit (patchSums (chan1 x)) (ix2 a q) * 8#32) + digit (patchSums (chan2 x)) (ix2 a q) * 64#32 := rfl
  rw [e, digit_apply, digit_apply, digit_apply, p0, p1, p2]
  have l0 := level_le (patchSum (t 0) (half j a) q); have l1 := level_le (patchSum (t 1) (half j a) q)
  have l2 := level_le (patchSum (t 2) (half j a) q)
  refine BitVec.eq_of_toNat_eq ?_
  simp only [lab, code, BitVec.toNat_add, BitVec.toNat_mul, BitVec.toNat_ofNat]
  omega

end Cert.Proof.Stream

end
-- ==== Proof.Losses.lean ====
/- What one stream adds to a grid point's two sums, at the ideal instance: the weighted losses of the half image's patches
   and their weights. -/
module

public import proofs.«01_k».proof.Proof.Labels

@[expose] public section

set_option maxRecDepth 16384

noncomputable section

namespace Cert.Proof.Stream

open Idealize.ShloMosaic hiding ix1 ix2 ix3 ix4 ix5
open Idealize.ShloMosaic.ValueIdx
open Cert.KernelIdeal Cert.KernelIdeal.Gen Cert.Proof.Spec

/-- Row `a`, column `q` of a half image's patches, as a row of the block of predictions. -/
def blockRow (a : Fin 16) (q : Fin 32) : Fin 512 := ⟨a.val * 32 + q.val, by have := a.isLt; have := q.isLt; omega⟩

/-- A block's sum, added. -/
theorem addSum_apply (s : FVec Ideal S1x1x1x1 .f32) (v : FVec Ideal S16x32 .f32) (y : S1x1x1x1.Idx) :
    addSum s v y = s y + ∑ a : Fin 16, ∑ q : Fin 32, v (ix2 a q) := by
  refine congrArg (s y + ·) ?_
  refine (Ideal.multiReduction_add_total (shapeCast S1x16x32 v shapeCasts_S16x32_S1x16x32) 0x00000000#32 reduces_S1x16x32_S1
    (fun b => by fin_cases b; rfl) (.inl rfl) rfl _).trans ?_
  rw [← ValueIdx.sum_idx2]
  exact Equiv.sum_comp (Shape.reshapeEquiv shapeCasts_S16x32_S1x16x32) v

/-- The block's rows, regrouped by patches. -/
theorem rows_apply (p : Vec Ideal S512x512 .f32) (a : Fin 16) (q : Fin 32) (c : Fin 512) :
    rows p (ix3 a q c) = p (ix2 (blockRow a q) c) := by
  refine (shapeCast_apply _ _ _ (ix2 (blockRow a q) c) ?_).trans (shapeCast_apply _ _ _ _ rfl)
  rw [Shape.rowMajor_val_two, Shape.rowMajor_val_three]; rfl

/-- The logarithm of a row's sum of exponentials. -/
theorem logSum_apply (p : Vec Ideal S512x512 .f32) (a : Fin 16) (q : Fin 32) :
    logSum p (ix2 a q) = Ideal.log (∑ c : Fin 512, Ideal.exp (p (ix2 (blockRow a q) c))) := by
  refine congrArg Ideal.log ((Ideal.multiReduction_add_single _ _ _ _ _ _).trans (Finset.sum_congr rfl fun c _ => ?_))
  exact congrArg Ideal.exp (rows_apply p a q c)

/-- Two classes' words compare as the classes do. -/
theorem cmp_class (d c : Fin 512) : IntOp.cmpi .eq (BitVec.ofNat 32 c.val) (BitVec.ofNat 32 d.val) = if c = d then 1#1 else 0#1 := by
  have h : (BitVec.ofNat 32 c.val == BitVec.ofNat 32 d.val) = decide (c = d) := by
    rw [Bool.eq_iff_iff, beq_iff_eq, decide_eq_true_iff]
    constructor
    · intro h
      have h' := congrArg BitVec.toNat h
      simp only [BitVec.toNat_ofNat] at h'
      have := c.isLt; have := d.isLt
      exact Fin.ext (by omega)
    · rintro rfl; rfl
  show BitVec.ofBool (BitVec.ofNat 32 c.val == BitVec.ofNat 32 d.val) = _
  rw [h]; by_cases e : c = d <;> simp [e]

/-- Where the masked label is a class, the entry picked is the row's entry of that class. -/
theorem picked_apply (l : IVec S16x32 32) (p : Vec Ideal S512x512 .f32) (a : Fin 16) (q : Fin 32) (d : Fin 512)
    (hl : l (ix2 a q) = BitVec.ofNat 32 d.val) : picked l p (ix2 a q) = p (ix2 (blockRow a q) d) := by
  refine (Ideal.multiReduction_add_single _ _ _ _ _ _).trans ?_
  have e : ∀ c : Fin 512, select (cmpi .eq (iota .tc S16x32x512 32 [2] iota_S16x32x512_d2_w32)
        (broadcastTo S16x32x512 (shapeCast S16x32x1 l shapeCasts_S16x32_S16x32x1) broadcasts_S16x32x1_S16x32x512))
      (rows p) (broadcast S16x32x512 (Scalar.ofBits .f32 0x00000000#32)) (ix3 a q c)
      = if c = d then p (ix2 (blockRow a q) c) else (0 : EReal) := by
    intro c
    have b : broadcastTo S16x32x512 (shapeCast S16x32x1 l shapeCasts_S16x32_S16x32x1) broadcasts_S16x32x1_S16x32x512 (ix3 a q c)
        = BitVec.ofNat 32 d.val := by
      refine (broadcastTo_apply _ _ _ (ix3 a q (0 : Fin 1)) fun ax => by fin_cases ax <;> rfl).trans ?_
      refine (shapeCast_apply _ _ _ (ix2 a q) ?_).trans hl
      rw [Shape.rowMajor_val_two, Shape.rowMajor_val_three]; simp
    have i : iota .tc S16x32x512 32 [2] iota_S16x32x512_d2_w32 (ix3 a q c) = BitVec.ofNat 32 c.val :=
      congrArg (BitVec.ofNat 32) (by show 0 * 512 + c.val = c.val; omega)
    show Scalar.select (IntOp.cmpi .eq (iota .tc S16x32x512 32 [2] iota_S16x32x512_d2_w32 (ix3 a q c))
      (broadcastTo S16x32x512 (shapeCast S16x32x1 l shapeCasts_S16x32_S16x32x1) broadcasts_S16x32x1_S16x32x512 (ix3 a q c)))
      (rows p (ix3 a q c)) (Ideal.ofBits .f32 0x00000000#32) = _
    rw [b, i, cmp_class, rows_apply, Ideal.ofBits_zero_f32]
    split
    · exact select_one _ _
    · exact select_zero _ _
  have one : ∑ c : Fin 512, (if c = d then p (ix2 (blockRow a q) c) else (0 : EReal)) = p (ix2 (blockRow a q) d) := by simp
  exact (Finset.sum_congr rfl fun c _ => e c).trans one

/-- A class's word is not negative. -/
theorem sge_class (d : Fin 512) : (IntOp.cmpi .sge (BitVec.ofNat 32 d.val) 0#32).setWidth 32 = 1#32 := by
  revert d; decide +kernel

/-- Where the masked label is a class, the patch is kept. -/
theorem kept_class (l : IVec S16x32 32) (i : S16x32.Idx) (d : Fin 512) (hl : l i = BitVec.ofNat 32 d.val) :
    kept (F := Ideal) l i = (1 : EReal) := by
  show FloatOps.sitofp (F := Ideal) .f32 ((IntOp.cmpi .sge (l i) 0#32).setWidth 32) = 1
  rw [hl, sge_class]; show (((1#32).toInt : ℝ) : EReal) = 1; norm_num

/-- Where the masked label is minus one, the patch is not. -/
theorem kept_none (l : IVec S16x32 32) (i : S16x32.Idx) (hl : l i = 4294967295#32) : kept (F := Ideal) l i = (0 : EReal) := by
  show FloatOps.sitofp (F := Ideal) .f32 ((IntOp.cmpi .sge (l i) 0#32).setWidth 32) = 0
  rw [hl]; show (((0#32).toInt : ℝ) : EReal) = 0; norm_num

/-- The masked label at a patch whose mask word is the bit `m` widened. -/
theorem maskedLabel_apply (l : IVec S16x32 32) (k : Vec Ideal S1x1x16x32 .i32) (a : Fin 16) (q : Fin 32) (m : BitVec 1)
    (hk : k (ix4 0 0 a q) = m.setWidth 32) :
    maskedLabel (F := Ideal) l k (ix2 a q) = if m = 1#1 then l (ix2 a q) else 4294967295#32 := by
  have e : shapeCast S16x32 k shapeCasts_S1x1x16x32_S16x32 (ix2 a q) = m.setWidth 32 := by
    refine (shapeCast_apply _ _ _ (ix4 0 0 a q) ?_).trans hk
    rw [Shape.rowMajor_val_two, Shape.rowMajor_val_four]; simp
  show Scalar.select (IntOp.cmpi .ne (shapeCast S16x32 k shapeCasts_S1x1x16x32_S16x32 (ix2 a q)) 0#32) (l (ix2 a q)) 4294967295#32 = _
  rw [e]
  by_cases h : m = 1#1
  · subst h; rfl
  · have h0 : m = 0#1 := eq_zero_of_ne_one h
    subst h0; rfl

section Stream

variable (p : Fin 64 → Fin 1024 → Fin 512 → EReal) (t : Fin 64 → Fin 3 → Fin 512 → Fin 512 → EReal)
  (m : Fin 64 → Fin 1024 → BitVec 1) (b : Fin 64) (j : Fin 2)
  (xt : Vec Ideal S1x3x256x512 .f32) (xp : Vec Ideal S512x512 .f32) (xk : Vec Ideal S1x1x16x32 .i32)

/-- The blocks of a stream are those of image `b`'s half `j`. -/
structure Reads : Prop where
  image : ∀ (ch : Fin 3) (a u : Fin 16) (w : Fin 512),
    xt (ix4 0 ch (pix (n := 16) a u) w) = t b ch (pix (n := 32) (half j a) u) w
  logits : ∀ (a : Fin 16) (q : Fin 32) (c : Fin 512), xp (ix2 (blockRow a q) c) = p b (patch (half j a) q) c
  mask : ∀ (a : Fin 16) (q : Fin 32), xk (ix4 0 0 a q) = (m b (patch (half j a) q)).setWidth 32

variable {p t m b j xt xp xk}

/-- A stream's kept patches are weighted by their mask bits. -/
theorem kept_apply (h : Reads p t m b j xt xp xk) (a : Fin 16) (q : Fin 32) :
    kept (F := Ideal) (maskedLabel (F := Ideal) (labelOf xt) xk) (ix2 a q) = weight (m b (patch (half j a) q)) := by
  have e := maskedLabel_apply (labelOf xt) xk a q _ (h.mask a q)
  by_cases h1 : m b (patch (half j a) q) = 1#1
  · rw [if_pos h1, labelOf_apply xt (t b) j h.image] at e
    rw [kept_class _ _ _ e, h1]; show (1 : EReal) = (((1#1).toNat : ℝ) : EReal); norm_num
  · rw [if_neg h1] at e
    rw [kept_none _ _ e, eq_zero_of_ne_one h1]; show (0 : EReal) = (((0#1).toNat : ℝ) : EReal); norm_num

/-- The loss a stream adds: the weighted losses of its patches. -/
theorem lossStep_apply (h : Reads p t m b j xt xp xk) (s : FVec Ideal S1x1x1x1 .f32) (y : S1x1x1x1.Idx) :
    lossStep s (maskedLabel (F := Ideal) (labelOf xt) xk) xp y = s y + ∑ a : Fin 16, ∑ q : Fin 32, term p t m b (half j a) q := by
  refine (addSum_apply _ _ _).trans (congrArg (s y + ·) (Finset.sum_congr rfl fun a _ => Finset.sum_congr rfl fun q _ => ?_))
  show kept (F := Ideal) (maskedLabel (F := Ideal) (labelOf xt) xk) (ix2 a q)
    * (logSum xp (ix2 a q) - picked (maskedLabel (F := Ideal) (labelOf xt) xk) xp (ix2 a q)) = _
  rw [kept_apply h]
  unfold term
  by_cases h1 : m b (patch (half j a) q) = 1#1
  · have e := maskedLabel_apply (labelOf xt) xk a q _ (h.mask a q)
    rw [if_pos h1, labelOf_apply xt (t b) j h.image] at e
    rw [picked_apply _ _ _ _ _ e, logSum_apply]
    unfold rowLoss
    simp only [h.logits]
  · rw [eq_zero_of_ne_one h1]
    have z : weight 0#1 = 0 := by show (((0#1).toNat : ℝ) : EReal) = 0; norm_num
    rw [z, zero_mul, zero_mul]

/-- The count a stream adds: the weights of its patches. -/
theorem countStep_apply (h : Reads p t m b j xt xp xk) (s : FVec Ideal S1x1x1x1 .f32) (y : S1x1x1x1.Idx) :
    countStep s (maskedLabel (F := Ideal) (labelOf xt) xk) y
      = s y + ∑ a : Fin 16, ∑ q : Fin 32, weight (m b (patch (half j a) q)) :=
  (addSum_apply _ _ _).trans (congrArg (s y + ·) (Finset.sum_congr rfl fun a _ => Finset.sum_congr rfl fun q _ => kept_apply h a q))

end Stream

end Cert.Proof.Stream

end
-- ==== Proof.Blocks.lean ====
/- What the kernel reads: each window's block at a grid point as entries of the three arguments, and so the facts
   `Stream.Reads` for the four streams of that point. -/
module

public import proofs.«01_k».proof.Proof.Losses
public import Idealize.ShloMosaic.Lib.StableHlo.Run

@[expose] public section

set_option maxRecDepth 16384

noncomputable section

namespace Cert.Proof.Blocks

open Idealize.ShloMosaic hiding ix1 ix2 ix3 ix4 ix5
open Idealize.ShloMosaic.ValueIdx Idealize.ShloMosaic.TcCoe Idealize.SL.Sem
open Cert.KernelIdeal Cert.KernelIdeal.Gen Cert.Proof.Spec Cert.Proof.Stream

variable (m : (ℓ : Loc nD τ sig) → Buf (Elt Ideal) ℓ) (c : Dev nD)

/-- The predictions the kernel is launched with. -/
def preds (b : Fin 64) (n : Fin 1024) (k : Fin 512) : EReal := m ((c : Thread nD τ).loc main_arg0) (ix3 b n k)
/-- The images it is launched with. -/
def images (b : Fin 64) (ch : Fin 3) (r w : Fin 512) : EReal := m ((c : Thread nD τ).loc main_arg1) (ix4 b ch r w)
/-- The masks it is launched with. -/
def masks (b : Fin 64) (n : Fin 1024) : BitVec 1 := m ((c : Thread nD τ).loc main_arg2) (ix2 b n)

/-- A grid point's first coordinate. -/
def gi (t : Fin cfg0.N) : Fin 16 := grid0.coords t 0
/-- A grid point's second coordinate. -/
def gj (t : Fin cfg0.N) : Fin 2 := grid0.coords t 1

/-- The mask words when the kernel's region is entered: the masks widened and regrouped. -/
theorem V_words : V m c main_call0_v1
    = shapeCast S4x16x32x32 (extui 32 (m ((c : Thread nD τ).loc main_arg2)) natLt_1_32) shapeCasts_S64x1024_S4x16x32x32 := by
  show StableHlo.after hostOps0 _ (Proc.devRef .tc main_call0_v1) = _
  after_results
  rfl

/-- The prediction rows when the region is entered: the predictions regrouped. -/
theorem V_rows : V m c main_call0_v2
    = shapeCast S65536x512 (m ((c : Thread nD τ).loc main_arg0)) shapeCasts_S64x1024x512_S65536x512 := by
  show StableHlo.after hostOps0 _ (Proc.devRef .tc main_call0_v2) = _
  after_results
  rfl

/-- Image `b` of the mask words: the mask bits of its patches, widened. -/
theorem words_apply (k : Fin 4) (i : Fin 16) (r q : Fin 32) :
    V m c main_call0_v1 (ix4 k i r q) = (masks m c (image k i) (patch r q)).setWidth 32 := by
  rw [V_words]
  refine (shapeCast_apply _ _ _ (ix2 (image k i) (patch r q)) ?_).trans rfl
  rw [Shape.rowMajor_val_two, Shape.rowMajor_val_four]
  show (k.val * 16 + i.val) * 1024 + (r.val * 32 + q.val) = ((k.val * 16 + i.val) * 32 + r.val) * 32 + q.val
  omega

/-- Row `b·1024 + n` of the prediction rows: patch `n` of image `b`. -/
theorem rows_entry (b : Fin 64) (n : Fin 1024) (k : Fin 512) (h : b.val * 1024 + n.val < 65536) :
    V m c main_call0_v2 (ix2 ⟨b.val * 1024 + n.val, h⟩ k) = preds m c b n k := by
  rw [V_rows]
  refine (shapeCast_apply _ _ _ (ix3 b n k) ?_).trans rfl
  rw [Shape.rowMajor_val_two, Shape.rowMajor_val_three]; rfl

/-- Stream 0 reads half an image: the image of its quarter, and the half that the step is at. -/
theorem image_at0 : ∀ t : Fin grid0.N, win0_0.index t 0 = (image 0 (gi t)).val ∧ win0_0.index t 1 = 0
    ∧ win0_0.index t 2 = (gj t).val ∧ win0_0.index t 3 = 0 := by decide +kernel
/-- Stream 1 reads half an image: the image of its quarter, and the half that the step is at. -/
theorem image_at1 : ∀ t : Fin grid0.N, win0_1.index t 0 = (image 1 (gi t)).val ∧ win0_1.index t 1 = 0
    ∧ win0_1.index t 2 = (gj t).val ∧ win0_1.index t 3 = 0 := by decide +kernel
/-- Stream 2 reads half an image: the image of its quarter, and the half that the step is at. -/
theorem image_at2 : ∀ t : Fin grid0.N, win0_2.index t 0 = (image 2 (gi t)).val ∧ win0_2.index t 1 = 0
    ∧ win0_2.index t 2 = (gj t).val ∧ win0_2.index t 3 = 0 := by decide +kernel
/-- Stream 3 reads half an image: the image of its quarter, and the half that the step is at. -/
theorem image_at3 : ∀ t : Fin grid0.N, win0_3.index t 0 = (image 3 (gi t)).val ∧ win0_3.index t 1 = 0
    ∧ win0_3.index t 2 = (gj t).val ∧ win0_3.index t 3 = 0 := by decide +kernel
/-- Stream 0 reads the rows of predictions that belong to its half image. -/
theorem rows_at4 : ∀ t : Fin grid0.N, win0_4.index t 0 = 2 * (image 0 (gi t)).val + (gj t).val ∧ win0_4.index t 1 = 0 := by
  decide +kernel
/-- Stream 1 reads the rows of predictions that belong to its half image. -/
theorem rows_at5 : ∀ t : Fin grid0.N, win0_5.index t 0 = 2 * (image 1 (gi t)).val + (gj t).val ∧ win0_5.index t 1 = 0 := by
  decide +kernel
/-- Stream 2 reads the rows of predictions that belong to its half image. -/
theorem rows_at6 : ∀ t : Fin grid0.N, win0_6.index t 0 = 2 * (image 2 (gi t)).val + (gj t).val ∧ win0_6.index t 1 = 0 := by
  decide +kernel
/-- Stream 3 reads the rows of predictions that belong to its half image. -/
theorem rows_at7 : ∀ t : Fin grid0.N, win0_7.index t 0 = 2 * (image 3 (gi t)).val + (gj t).val ∧ win0_7.index t 1 = 0 := by
  decide +kernel
/-- Every step sees the whole mask. -/
theorem words_at : ∀ t : Fin grid0.N, win0_8.index t 0 = 0 ∧ win0_8.index t 1 = 0
    ∧ win0_8.index t 2 = 0 ∧ win0_8.index t 3 = 0 := by decide +kernel
/-- Where stream 0 reads the mask at a step. -/
theorem off_at1 : ∀ t : Fin grid0.N, k0_off1 (grid0.coords t) = ![0, (gi t).val, (gj t).val * 16, 0] := by decide +kernel
/-- Where stream 1 reads the mask at a step. -/
theorem off_at2 : ∀ t : Fin grid0.N, k0_off2 (grid0.coords t) = ![1, (gi t).val, (gj t).val * 16, 0] := by decide +kernel
/-- Where stream 2 reads the mask at a step. -/
theorem off_at3 : ∀ t : Fin grid0.N, k0_off3 (grid0.coords t) = ![2, (gi t).val, (gj t).val * 16, 0] := by decide +kernel
/-- Where stream 3 reads the mask at a step. -/
theorem off_at4 : ∀ t : Fin grid0.N, k0_off4 (grid0.coords t) = ![3, (gi t).val, (gj t).val * 16, 0] := by decide +kernel

/-- The images' array read at an index whose coordinates are those of an entry. -/
theorem image_entry (x : S64x3x512x512.Idx) (b : Fin 64) (ch : Fin 3) (r w : Fin 512) (h0 : (x 0).val = b.val)
    (h1 : (x 1).val = ch.val) (h2 : (x 2).val = r.val) (h3 : (x 3).val = w.val) :
    (V m c main_arg1 : FVec Ideal S64x3x512x512 .f32) x = images m c b ch r w := by
  rw [V_main_arg1]
  refine congrArg (m ((c : Thread nD τ).loc main_arg1)) (funext fun a => Fin.ext ?_)
  match a with
  | ⟨0, _⟩ => exact h0
  | ⟨1, _⟩ => exact h1
  | ⟨2, _⟩ => exact h2
  | ⟨3, _⟩ => exact h3

/-- The prediction rows read at an index whose coordinates are those of a patch's row. -/
theorem logit_entry (x : S65536x512.Idx) (b : Fin 64) (n : Fin 1024) (k : Fin 512) (h0 : (x 0).val = b.val * 1024 + n.val)
    (h1 : (x 1).val = k.val) : (V m c main_call0_v2 : FVec Ideal S65536x512 .f32) x = preds m c b n k := by
  have h : b.val * 1024 + n.val < 65536 := by have := b.isLt; have := n.isLt; omega
  refine Eq.trans (congrArg (V m c main_call0_v2) (funext fun a => Fin.ext ?_)) (rows_entry m c b n k h)
  match a with
  | ⟨0, _⟩ => exact h0
  | ⟨1, _⟩ => exact h1

/-- A block of images, its offsets given, reads the half image it lies on. -/
theorem image_row (j : Fin 2) (a u : Fin 16) :
    j.val * 256 + 1 * (a.val * 16 + u.val) = (j.val * 16 + a.val) * 16 + u.val := by omega

/-- Window 0's block of images, read at a pixel. -/
theorem read0 (t : Fin cfg0.N) (ch : Fin 3) (a u : Fin 16) (w : Fin 512) :
    (iblk m c 0 t : FVec Ideal S1x3x256x512 .f32) (ix4 0 ch (pix (n := 16) a u) w)
      = images m c (image 0 (gi t)) ch (pix (n := 32) (half (gj t) a) u) w := by
  obtain ⟨e0, e1, e2, e3⟩ := image_at0 t
  unfold iblk
  rw [View.read_apply]
  refine image_entry m c _ _ _ _ _ ?_ ?_ ?_ ?_
  · show win0_0.index t 0 * 1 + 1 * 0 = _; rw [e0]; omega
  · show win0_0.index t 1 * 3 + 1 * ch.val = _; rw [e1]; omega
  · show win0_0.index t 2 * 256 + 1 * (a.val * 16 + u.val) = _; rw [e2]; exact image_row _ _ _
  · show win0_0.index t 3 * 512 + 1 * w.val = _; rw [e3]; omega

/-- Window 1's block of images, read at a pixel. -/
theorem read1 (t : Fin cfg0.N) (ch : Fin 3) (a u : Fin 16) (w : Fin 512) :
    (iblk m c 1 t : FVec Ideal S1x3x256x512 .f32) (ix4 0 ch (pix (n := 16) a u) w)
      = images m c (image 1 (gi t)) ch (pix (n := 32) (half (gj t) a) u) w := by
  obtain ⟨e0, e1, e2, e3⟩ := image_at1 t
  unfold iblk
  rw [View.read_apply]
  refine image_entry m c _ _ _ _ _ ?_ ?_ ?_ ?_
  · show win0_1.index t 0 * 1 + 1 * 0 = _; rw [e0]; omega
  · show win0_1.index t 1 * 3 + 1 * ch.val = _; rw [e1]; omega
  · show win0_1.index t 2 * 256 + 1 * (a.val * 16 + u.val) = _; rw [e2]; exact image_row _ _ _
  · show win0_1.index t 3 * 512 + 1 * w.val = _; rw [e3]; omega

/-- Window 2's block of images, read at a pixel. -/
theorem read2 (t : Fin cfg0.N) (ch : Fin 3) (a u : Fin 16) (w : Fin 512) :
    (iblk m c 2 t : FVec Ideal S1x3x256x512 .f32) (ix4 0 ch (pix (n := 16) a u) w)
      = images m c (image 2 (gi t)) ch (pix (n := 32) (half (gj t) a) u) w := by
  obtain ⟨e0, e1, e2, e3⟩ := image_at2 t
  unfold iblk
  rw [View.read_apply]
  refine image_entry m c _ _ _ _ _ ?_ ?_ ?_ ?_
  · show win0_2.index t 0 * 1 + 1 * 0 = _; rw [e0]; omega
  · show win0_2.index t 1 * 3 + 1 * ch.val = _; rw [e1]; omega
  · show win0_2.index t 2 * 256 + 1 * (a.val * 16 + u.val) = _; rw [e2]; exact image_row _ _ _
  · show win0_2.index t 3 * 512 + 1 * w.val = _; rw [e3]; omega

/-- Window 3's block of images, read at a pixel. -/
theorem read3 (t : Fin cfg0.N) (ch : Fin 3) (a u : Fin 16) (w : Fin 512) :
    (iblk m c 3 t : FVec Ideal S1x3x256x512 .f32) (ix4 0 ch (pix (n := 16) a u) w)
      = images m c (image 3 (gi t)) ch (pix (n := 32) (half (gj t) a) u) w := by
  obtain ⟨e0, e1, e2, e3⟩ := image_at3 t
  unfold iblk
  rw [View.read_apply]
  refine image_entry m c _ _ _ _ _ ?_ ?_ ?_ ?_
  · show win0_3.index t 0 * 1 + 1 * 0 = _; rw [e0]; omega
  · show win0_3.index t 1 * 3 + 1 * ch.val = _; rw [e1]; omega
  · show win0_3.index t 2 * 256 + 1 * (a.val * 16 + u.val) = _; rw [e2]; exact image_row _ _ _
  · show win0_3.index t 3 * 512 + 1 * w.val = _; rw [e3]; omega

/-- A block of prediction rows reads the patches of the half image. -/
theorem patch_row (b : Fin 64) (j : Fin 2) (a : Fin 16) (q : Fin 32) :
    (2 * b.val + j.val) * 512 + 1 * (a.val * 32 + q.val) = b.val * 1024 + ((j.val * 16 + a.val) * 32 + q.val) := by omega

/-- Window 4's block of prediction rows, read at a patch's logit. -/
theorem read4 (t : Fin cfg0.N) (a : Fin 16) (q : Fin 32) (n : Fin 512) :
    (iblk m c 4 t : FVec Ideal S512x512 .f32) (ix2 (blockRow a q) n) = preds m c (image 0 (gi t)) (patch (half (gj t) a) q) n := by
  obtain ⟨e0, e1⟩ := rows_at4 t
  unfold iblk
  rw [View.read_apply]
  refine logit_entry m c _ _ _ _ ?_ ?_
  · show win0_4.index t 0 * 512 + 1 * (a.val * 32 + q.val) = _; rw [e0]; exact patch_row _ _ _ _
  · show win0_4.index t 1 * 512 + 1 * n.val = _; rw [e1]; omega

/-- Window 5's block of prediction rows, read at a patch's logit. -/
theorem read5 (t : Fin cfg0.N) (a : Fin 16) (q : Fin 32) (n : Fin 512) :
    (iblk m c 5 t : FVec Ideal S512x512 .f32) (ix2 (blockRow a q) n) = preds m c (image 1 (gi t)) (patch (half (gj t) a) q) n := by
  obtain ⟨e0, e1⟩ := rows_at5 t
  unfold iblk
  rw [View.read_apply]
  refine logit_entry m c _ _ _ _ ?_ ?_
  · show win0_5.index t 0 * 512 + 1 * (a.val * 32 + q.val) = _; rw [e0]; exact patch_row _ _ _ _
  · show win0_5.index t 1 * 512 + 1 * n.val = _; rw [e1]; omega

/-- Window 6's block of prediction rows, read at a patch's logit. -/
theorem read6 (t : Fin cfg0.N) (a : Fin 16) (q : Fin 32) (n : Fin 512) :
    (iblk m c 6 t : FVec Ideal S512x512 .f32) (ix2 (blockRow a q) n) = preds m c (image 2 (gi t)) (patch (half (gj t) a) q) n := by
  obtain ⟨e0, e1⟩ := rows_at6 t
  unfold iblk
  rw [View.read_apply]
  refine logit_entry m c _ _ _ _ ?_ ?_
  · show win0_6.index t 0 * 512 + 1 * (a.val * 32 + q.val) = _; rw [e0]; exact patch_row _ _ _ _
  · show win0_6.index t 1 * 512 + 1 * n.val = _; rw [e1]; omega

/-- Window 7's block of prediction rows, read at a patch's logit. -/
theorem read7 (t : Fin cfg0.N) (a : Fin 16) (q : Fin 32) (n : Fin 512) :
    (iblk m c 7 t : FVec Ideal S512x512 .f32) (ix2 (blockRow a q) n) = preds m c (image 3 (gi t)) (patch (half (gj t) a) q) n := by
  obtain ⟨e0, e1⟩ := rows_at7 t
  unfold iblk
  rw [View.read_apply]
  refine logit_entry m c _ _ _ _ ?_ ?_
  · show win0_7.index t 0 * 512 + 1 * (a.val * 32 + q.val) = _; rw [e0]; exact patch_row _ _ _ _
  · show win0_7.index t 1 * 512 + 1 * n.val = _; rw [e1]; omega

/-- The block of mask words is the whole array. -/
theorem read8 (t : Fin cfg0.N) (k : Fin 4) (i : Fin 16) (r q : Fin 32) :
    (iblk m c 8 t : IVec S4x16x32x32 32) (ix4 k i r q) = (masks m c (image k i) (patch r q)).setWidth 32 := by
  obtain ⟨e0, e1, e2, e3⟩ := words_at t
  refine Eq.trans ?_ (words_apply m c k i r q)
  unfold iblk
  rw [View.read_apply]
  show V m c main_call0_v1 _ = V m c main_call0_v1 _
  refine congrArg (V m c main_call0_v1) (funext fun a => Fin.ext ?_)
  match a with
  | ⟨0, _⟩ => show win0_8.index t 0 * 4 + 1 * k.val = k.val; rw [e0]; omega
  | ⟨1, _⟩ => show win0_8.index t 1 * 16 + 1 * i.val = i.val; rw [e1]; omega
  | ⟨2, _⟩ => show win0_8.index t 2 * 32 + 1 * r.val = r.val; rw [e2]; omega
  | ⟨3, _⟩ => show win0_8.index t 3 * 32 + 1 * q.val = q.val; rw [e3]; omega

/-- Stream 0 of a grid point reads half `gj t` of image `0 + gi t`. -/
theorem reads0 (t : Fin cfg0.N) : Reads (preds m c) (images m c) (masks m c) (image 0 (gi t)) (gj t) (iblk m c 0 t) (iblk m c 4 t)
    (View.ld (iblk m c 8 t : Vec Ideal S4x16x32x32 .i32)
      (Rect.unit (s := S4x16x32x32) (k0_off1 (grid0.coords t)) S1x1x16x32.size (k0_off1_inb (grid0.coords t)))) where
  image ch a u w := read0 m c t ch a u w
  logits a q n := read4 m c t a q n
  mask a q := by
    refine Eq.trans (View.ld_unit_apply_of _ _ _ _ _ (ix4 0 (gi t) (half (gj t) a) q) fun ax => ?_) (read8 m c t 0 (gi t) (half (gj t) a) q)
    refine Eq.trans ?_ (congrArg (fun o : ℕ => o + (ix4 (0 : Fin 1) (0 : Fin 1) a q ax).val) (congrFun (off_at1 t) ax)).symm
    match ax with
    | ⟨0, _⟩ => rfl
    | ⟨1, _⟩ => rfl
    | ⟨2, _⟩ => rfl
    | ⟨3, _⟩ => show q.val = 0 + q.val; omega

/-- Stream 1 of a grid point reads half `gj t` of image `16 + gi t`. -/
theorem reads1 (t : Fin cfg0.N) : Reads (preds m c) (images m c) (masks m c) (image 1 (gi t)) (gj t) (iblk m c 1 t) (iblk m c 5 t)
    (View.ld (iblk m c 8 t : Vec Ideal S4x16x32x32 .i32)
      (Rect.unit (s := S4x16x32x32) (k0_off2 (grid0.coords t)) S1x1x16x32.size (k0_off2_inb (grid0.coords t)))) where
  image ch a u w := read1 m c t ch a u w
  logits a q n := read5 m c t a q n
  mask a q := by
    refine Eq.trans (View.ld_unit_apply_of _ _ _ _ _ (ix4 1 (gi t) (half (gj t) a) q) fun ax => ?_) (read8 m c t 1 (gi t) (half (gj t) a) q)
    refine Eq.trans ?_ (congrArg (fun o : ℕ => o + (ix4 (0 : Fin 1) (0 : Fin 1) a q ax).val) (congrFun (off_at2 t) ax)).symm
    match ax with
    | ⟨0, _⟩ => rfl
    | ⟨1, _⟩ => rfl
    | ⟨2, _⟩ => rfl
    | ⟨3, _⟩ => show q.val = 0 + q.val; omega

/-- Stream 2 of a grid point reads half `gj t` of image `32 + gi t`. -/
theorem reads2 (t : Fin cfg0.N) : Reads (preds m c) (images m c) (masks m c) (image 2 (gi t)) (gj t) (iblk m c 2 t) (iblk m c 6 t)
    (View.ld (iblk m c 8 t : Vec Ideal S4x16x32x32 .i32)
      (Rect.unit (s := S4x16x32x32) (k0_off3 (grid0.coords t)) S1x1x16x32.size (k0_off3_inb (grid0.coords t)))) where
  image ch a u w := read2 m c t ch a u w
  logits a q n := read6 m c t a q n
  mask a q := by
    refine Eq.trans (View.ld_unit_apply_of _ _ _ _ _ (ix4 2 (gi t) (half (gj t) a) q) fun ax => ?_) (read8 m c t 2 (gi t) (half (gj t) a) q)
    refine Eq.trans ?_ (congrArg (fun o : ℕ => o + (ix4 (0 : Fin 1) (0 : Fin 1) a q ax).val) (congrFun (off_at3 t) ax)).symm
    match ax with
    | ⟨0, _⟩ => rfl
    | ⟨1, _⟩ => rfl
    | ⟨2, _⟩ => rfl
    | ⟨3, _⟩ => show q.val = 0 + q.val; omega

/-- Stream 3 of a grid point reads half `gj t` of image `48 + gi t`. -/
theorem reads3 (t : Fin cfg0.N) : Reads (preds m c) (images m c) (masks m c) (image 3 (gi t)) (gj t) (iblk m c 3 t) (iblk m c 7 t)
    (View.ld (iblk m c 8 t : Vec Ideal S4x16x32x32 .i32)
      (Rect.unit (s := S4x16x32x32) (k0_off4 (grid0.coords t)) S1x1x16x32.size (k0_off4_inb (grid0.coords t)))) where
  image ch a u w := read3 m c t ch a u w
  logits a q n := read7 m c t a q n
  mask a q := by
    refine Eq.trans (View.ld_unit_apply_of _ _ _ _ _ (ix4 3 (gi t) (half (gj t) a) q) fun ax => ?_) (read8 m c t 3 (gi t) (half (gj t) a) q)
    refine Eq.trans ?_ (congrArg (fun o : ℕ => o + (ix4 (0 : Fin 1) (0 : Fin 1) a q ax).val) (congrFun (off_at4 t) ax)).symm
    match ax with
    | ⟨0, _⟩ => rfl
    | ⟨1, _⟩ => rfl
    | ⟨2, _⟩ => rfl
    | ⟨3, _⟩ => show q.val = 0 + q.val; omega

end Cert.Proof.Blocks
-- ==== Proof.Arrays.lean ====
/- What the kernel leaves: at each grid point the losses and the weights of four half images, in the two arrays those sums
   point by point, and in the result the quotient of the sums over all patches. -/
module

public import proofs.«01_k».proof.Proof.Blocks
public import Idealize.ShloMosaic.Lib.Claim

@[expose] public section

set_option maxRecDepth 16384

noncomputable section

namespace Cert.Proof.Arrays

open Idealize.ShloMosaic hiding ix1 ix2 ix3 ix4 ix5
open Idealize.ShloMosaic.ValueIdx Idealize.ShloMosaic.TcCoe Idealize.SL.Sem
open Cert.KernelIdeal Cert.KernelIdeal.Gen Cert.Proof.Spec Cert.Proof.Stream Cert.Proof.Blocks

variable (m : (ℓ : Loc nD τ sig) → Buf (Elt Ideal) ℓ) (ρ : Dev nD → PrngReg) (c : Dev nD)

/-- The losses a grid point adds up: those of half `j` of the images `i`, `16 + i`, `32 + i` and `48 + i`. -/
def lossSum (i : Fin 16) (j : Fin 2) : EReal :=
  ∑ k : Fin 4, ∑ a : Fin 16, ∑ q : Fin 32, term (preds m c) (images m c) (masks m c) (image k i) (half j a) q
/-- The weights it adds up. -/
def maskSum (i : Fin 16) (j : Fin 2) : EReal :=
  ∑ k : Fin 4, ∑ a : Fin 16, ∑ q : Fin 32, weight (masks m c (image k i) (patch (half j a) q))

/-- The array of the grid points' losses. -/
def losses : FVec Ideal S16x2x1x1 .f32 := fun x => lossSum m c (x 0) (x 1)
/-- The array of the grid points' weights. -/
def counts : FVec Ideal S16x2x1x1 .f32 := fun x => maskSum m c (x 0) (x 1)

/-- Both totals start from zero. -/
theorem start_apply (y : S1x1x1x1.Idx) : start (F := Ideal) y = (0 : EReal) := Ideal.ofBits_zero_f32

/-- A grid point leaves its losses' sum in its block of the first output. -/
theorem point_loss (t : Fin cfg0.N) (y : S1x1x1x1.Idx) : (outsAt0 m c t).1 y = lossSum m c (gi t) (gj t) := by
  unfold outsAt0
  dsimp only
  rw [out9_eq]
  refine (lossStep_apply (reads3 m c t) _ y).trans ?_
  rw [show lossSum m c (gi t) (gj t) = _ from Fin.sum_univ_four _]
  refine congrArg₂ (· + ·) ((lossStep_apply (reads2 m c t) _ y).trans ?_) rfl
  refine congrArg₂ (· + ·) ((lossStep_apply (reads1 m c t) _ y).trans ?_) rfl
  refine congrArg₂ (· + ·) ((lossStep_apply (reads0 m c t) _ y).trans ?_) rfl
  rw [start_apply, zero_add]

/-- A grid point leaves its weights' sum in its block of the second output. -/
theorem point_count (t : Fin cfg0.N) (y : S1x1x1x1.Idx) : (outsAt0 m c t).2 y = maskSum m c (gi t) (gj t) := by
  unfold outsAt0
  dsimp only
  rw [out10_eq]
  refine (countStep_apply (reads3 m c t) _ y).trans ?_
  rw [show maskSum m c (gi t) (gj t) = _ from Fin.sum_univ_four _]
  refine congrArg₂ (· + ·) ((countStep_apply (reads2 m c t) _ y).trans ?_) rfl
  refine congrArg₂ (· + ·) ((countStep_apply (reads1 m c t) _ y).trans ?_) rfl
  refine congrArg₂ (· + ·) ((countStep_apply (reads0 m c t) _ y).trans ?_) rfl
  rw [start_apply, zero_add]

/-- Each step writes its own element of the losses' array. -/
theorem place9 : ∀ t : Fin grid0.N, win0_9.index t 0 = (gi t).val ∧ win0_9.index t 1 = (gj t).val := by decide +kernel
/-- Each step writes its own element of the counts' array. -/
theorem place10 : ∀ t : Fin grid0.N, win0_10.index t 0 = (gi t).val ∧ win0_10.index t 1 = (gj t).val := by decide +kernel

/-- The first output array ends holding every grid point's losses. -/
theorem final9 : (dats m 0 c).arrAt 9 cfg0.N = losses m c := by
  refine (dats m 0 c).arrAt_eq_of_covers 9 _ (by decide +kernel) fun t _ y => ?_
  blk_simp
  rw [after0_9]
  refine (point_loss m c t _).trans ?_
  obtain ⟨e0, e1⟩ := place9 t
  refine congrArg₂ (lossSum m c) (Fin.ext ?_) (Fin.ext ?_)
  · show (gi t).val = win0_9.index t 0 * 1 + 1 * (y 0).val
    have : (y 0).val < 1 := (y 0).isLt
    rw [e0]; omega
  · show (gj t).val = win0_9.index t 1 * 1 + 1 * (y 1).val
    have : (y 1).val < 1 := (y 1).isLt
    rw [e1]; omega

/-- The second output array ends holding every grid point's weights. -/
theorem final10 : (dats m 0 c).arrAt 10 cfg0.N = counts m c := by
  refine (dats m 0 c).arrAt_eq_of_covers 10 _ (by decide +kernel) fun t _ y => ?_
  blk_simp
  rw [after0_10]
  refine (point_count m c t _).trans ?_
  obtain ⟨e0, e1⟩ := place10 t
  refine congrArg₂ (maskSum m c) (Fin.ext ?_) (Fin.ext ?_)
  · show (gi t).val = win0_10.index t 0 * 1 + 1 * (y 0).val
    have : (y 0).val < 1 := (y 0).isLt
    rw [e0]; omega
  · show (gj t).val = win0_10.index t 1 * 1 + 1 * (y 1).val
    have : (y 1).val < 1 := (y 1).isLt
    rw [e1]; omega

/-- An index of the grid points' arrays is a grid point. -/
def pointEquiv : S16x2x1x1.Idx ≃ Fin 16 × Fin 2 where
  toFun x := (x 0, x 1)
  invFun p := ix4 p.1 p.2 0 0
  left_inv x := funext fun a => by
    match a with
    | ⟨0, _⟩ => rfl
    | ⟨1, _⟩ => rfl
    | ⟨2, _⟩ => exact Subsingleton.elim (α := Fin 1) _ _
    | ⟨3, _⟩ => exact Subsingleton.elim (α := Fin 1) _ _
  right_inv _ := rfl

/-- A sum over the grid points' arrays is a sum over the grid. -/
theorem sum_points (f : Fin 16 → Fin 2 → EReal) : (∑ x : S16x2x1x1.Idx, f (x 0) (x 1)) = ∑ i : Fin 16, ∑ j : Fin 2, f i j :=
  (Equiv.sum_comp pointEquiv fun p : Fin 16 × Fin 2 => f p.1 p.2).trans (Fintype.sum_prod_type _)

/-- All grid points' losses: the sum over every patch of every image. -/
theorem total_losses : (∑ x, losses m c x) = num (preds m c) (images m c) (masks m c) :=
  (sum_points (lossSum m c)).trans
    (sum_grid fun b r => ∑ q : Fin 32, term (preds m c) (images m c) (masks m c) b r q)

/-- All grid points' weights. -/
theorem total_counts : (∑ x, counts m c x) = den (masks m c) :=
  (sum_points (maskSum m c)).trans (sum_grid fun b r => ∑ q : Fin 32, weight (masks m c b (patch r q)))

/-- The mean loss the kernel returns. -/
def mean : FVec Ideal S_ .f32 :=
  fun _ => Ideal.div (num (preds m c) (images m c) (masks m c)) (den (masks m c))

/-- A total of a grid-point array from zero. -/
theorem total (x : FVec Ideal S16x2x1x1 .f32) (z : S_.Idx) :
    Host.reduceAdd x (constant (F := Ideal) S_ .f32 0x00000000#32) reducesTo_S16x2x1x1_S_d0_1_2_3 h_S_ z = ∑ i, x i := by
  refine (Ideal.hostReduceAdd_total _ (fun b => b.elim0) x _ z).trans ?_
  rw [show (constant (F := Ideal) S_ .f32 0x00000000#32) (Shape.Idx.first h_S_) = (0 : EReal) from Ideal.ofBits_zero_f32, zero_add]

/-- After the call the losses' array is what the steps wrote. -/
theorem exit9 : Pipeline.withArrays (cfgs 0).spec c (V0 m c) (fun w => (dats m 0 c).arrAt w (cfgs 0).N) (Proc.devRef .tc main_call0_v3_0)
      = losses m c := ((dats m 0 c).withArrays_arrAt sharedIn0 (V0 m c) (A_eq m c) 9).trans (final9 m c)
/-- After the call the counts' array is what the steps wrote. -/
theorem exit10 : Pipeline.withArrays (cfgs 0).spec c (V0 m c) (fun w => (dats m 0 c).arrAt w (cfgs 0).N) (Proc.devRef .tc main_call0_v3_1)
      = counts m c := ((dats m 0 c).withArrays_arrAt sharedIn0 (V0 m c) (A_eq m c) 10).trans (final10 m c)
/-- The host's last operations on any contents: the quotient of the totals of the two arrays. -/
theorem tail (W : Valuation τ sig (Elt Ideal)) : StableHlo.after hostOps1 W (Proc.devRef .tc main_v0)
    = Host.divf (Host.reduceAdd (W (Proc.devRef .tc main_call0_v3_0)) (constant (F := Ideal) S_ .f32 0x00000000#32) reducesTo_S16x2x1x1_S_d0_1_2_3 h_S_)
      (Host.reduceAdd (W (Proc.devRef .tc main_call0_v3_1)) (constant (F := Ideal) S_ .f32 0x00000000#32) reducesTo_S16x2x1x1_S_d0_1_2_3 h_S_) := by
  after_results
  rfl

/-- The quotient of the two arrays' totals is the mean loss. -/
theorem quotient : Host.divf (Host.reduceAdd (losses m c) (constant (F := Ideal) S_ .f32 0x00000000#32) reducesTo_S16x2x1x1_S_d0_1_2_3 h_S_)
      (Host.reduceAdd (counts m c) (constant (F := Ideal) S_ .f32 0x00000000#32) reducesTo_S16x2x1x1_S_d0_1_2_3 h_S_) = mean m c := by
  funext z
  rw [hostDivf_apply, total, total, total_losses, total_counts]
  rfl

/-- The result after the host's last operations: the mean loss. -/
theorem result : Pipeline.afterTail₀ cfgs (dats m) 0 (V0 m) [hostOps1] c main_v0 = mean m c := by
  unfold Pipeline.afterTail₀
  have h := tail (Pipeline.withArrays (cfgs 0).spec c (V0 m c) (fun w => (dats m 0 c).arrAt w (cfgs 0).N))
  rw [exit9, exit10] at h
  exact h.trans (quotient m c)

/-- The kernel's run: the result buffer is as the host's last operations leave it. -/
theorem run_result : θ_run defs (onTc (τ := τ) (main (F := Ideal))) ⟨m, fun _ => 0, ρ⟩ fun r => ∀ c : Dev nD,
      r.2.mem ((c.tc : Thread nD τ).loc main_v0) = mean m c :=
  (θ_run defs _ _).mono (fun _ h c =>
    ((h c).2 main_v0 (Pipeline.mem_restRefs_of main_v0 (by decide) (by decide))).trans (result m c)) (run_main m ρ)

/-- The kernel's run: the result holds the mean loss, the arguments what they held. -/
theorem run : θ_run defs (onTc (τ := τ) (main (F := Ideal))) ⟨m, fun _ => 0, ρ⟩ fun r => ∀ c : Dev nD,
      r.2.mem ((c.tc : Thread nD τ).loc main_v0) = mean m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨h.1 c, h.2 c⟩) (θ_run_and (run_result m ρ) (unchanged m ρ))

end Cert.Proof.Arrays
-- ==== Proof.RefLabel.lean ====
/- What the reference computes from the images: the sum of a patch's channel, how many bins lie below its mean, and the
   label of the patch. -/
module

public import proofs.«01_k».proof.Proof.Arrays
public import proofs.«01_k».proof.Proof.Gen.ReferenceIdeal.Read
public import Idealize.ShloMosaic.Lib.ValueIdxRank6

@[expose] public section

set_option maxRecDepth 16384

noncomputable section

namespace Cert.Proof.RefLabel

open Idealize.ShloMosaic hiding ix1 ix2 ix3 ix4 ix5 ix6
open Idealize.ShloMosaic.ValueIdx
open Cert.ReferenceIdeal Cert.ReferenceIdeal.Gen Cert.ReferenceIdeal.Read Cert.Proof.Spec

/-- Words added up are the word of the sum. -/
theorem fold_words {ι : Type} (s : Finset ι) (g : ι → ℕ) :
    s.fold IntOp.addi 0#32 (fun k => BitVec.ofNat 32 (g k)) = BitVec.ofNat 32 (∑ k ∈ s, g k) := by
  classical
  induction s using Finset.induction_on with
  | empty => rfl
  | insert a s ha ih =>
    rw [Finset.fold_insert ha, ih, Finset.sum_insert ha]
    exact (BitVec.ofNat_add ..).symm

/-- The width of a bin, as the reference's literal. -/
theorem eighth : Ideal.ofBits .f32 0x3E000000#32 = ((1 / 8 : ℝ) : EReal) := by
  simp [Ideal.ofBits, Ideal.ieee, -EReal.coe_mul]; norm_num

/-- The number of a patch's pixels, as the reference's literal. -/
theorem pixels : Ideal.ofBits .f32 0x43800000#32 = ((256 : ℝ) : EReal) := by
  simp [Ideal.ofBits, Ideal.ieee, -EReal.coe_mul]; norm_num

variable (x1 : FVec Ideal S64x3x512x512 .f32)

/-- The images by coordinates. -/
def pic (b : Fin 64) (ch : Fin 3) (r w : Fin 512) : EReal := x1 (ix4 b ch r w)

/-- The capped images, regrouped by patches. -/
theorem v2_apply (b : Fin 64) (ch : Fin 3) (r : Fin 32) (u : Fin 16) (q : Fin 32) (v : Fin 16) :
    val_main_v2 (F := Ideal) x1 (ix6 b ch r u q v) = min (pic x1 b ch (pix (n := 32) r u) (pix (n := 32) q v)) 1 := by
  refine (shapeCast_apply _ shapeCasts_S64x3x512x512_S64x3x32x16x32x16 _ (ix4 b ch (pix (n := 32) r u) (pix (n := 32) q v)) ?_).trans ?_
  · rw [Shape.rowMajor_val_four, Shape.rowMajor_val_six]
    show ((b.val * 3 + ch.val) * 512 + (r.val * 16 + u.val)) * 512 + (q.val * 16 + v.val)
      = ((((b.val * 3 + ch.val) * 32 + r.val) * 16 + u.val) * 32 + q.val) * 16 + v.val
    omega
  · rw [val_main_v1_apply, val_main_v0_apply, val_main_cst_apply]
    exact congrArg (min _) Ideal.ofBits_one_f32

/-- An index of the regrouped images lies over the patch and channel of its other coordinates. -/
theorem drop_eq (i : S64x3x32x16x32x16.Idx) :
    reducesTo_S64x3x32x16x32x16_S64x3x32x32_d3_5.drop i = ix4 (i 0) (i 1) (i 2) (i 4) :=
  funext fun a => Fin.ext (by match a with | ⟨0, _⟩ => rfl | ⟨1, _⟩ => rfl | ⟨2, _⟩ => rfl | ⟨3, _⟩ => rfl)

/-- The sum of a patch's channel. -/
theorem v3_apply (b : Fin 64) (ch : Fin 3) (r q : Fin 32) :
    val_main_v3 (F := Ideal) x1 (ix4 b ch r q) = patchSum (pic x1 b ch) r q := by
  refine (hostReduceAdd_apply _ _ reducesTo_S64x3x32x16x32x16_S64x3x32x32_d3_5 h_S_ _).trans ?_
  show val_main_cst_0 (F := Ideal) _ + (∑ i ∈ Finset.univ.filter
    (fun i => reducesTo_S64x3x32x16x32x16_S64x3x32x32_d3_5.drop i = ix4 b ch r q), val_main_v2 (F := Ideal) x1 i) = _
  rw [val_main_cst_0_apply, show FloatOps.ofBits (F := Ideal) .f32 0x00000000#32 = (0 : EReal) from Ideal.ofBits_zero_f32, zero_add]
  unfold patchSum
  rw [← Fintype.sum_prod_type' (f := fun u v : Fin 16 => min (pic x1 b ch (pix (n := 32) r u) (pix (n := 32) q v)) 1)]
  refine Finset.sum_nbij' (fun i => ((i 3 : Fin 16), (i 5 : Fin 16))) (fun p => ix6 b ch r p.1 q p.2) (fun _ _ => Finset.mem_univ _)
    (fun p _ => Finset.mem_filter.2 ⟨Finset.mem_univ _, drop_eq _⟩) (fun i hi => ?_) (fun p _ => rfl) (fun i hi => ?_)
  · have h := (drop_eq i).symm.trans (Finset.mem_filter.1 hi).2
    funext a
    match a with
    | ⟨0, _⟩ => exact (congrFun h 0).symm
    | ⟨1, _⟩ => exact (congrFun h 1).symm
    | ⟨2, _⟩ => exact (congrFun h 2).symm
    | ⟨3, _⟩ => rfl
    | ⟨4, _⟩ => exact (congrFun h 3).symm
    | ⟨5, _⟩ => rfl
  · have h := (drop_eq i).symm.trans (Finset.mem_filter.1 hi).2
    rw [← v2_apply]
    congr 1
    funext a
    match a with
    | ⟨0, _⟩ => exact congrFun h 0
    | ⟨1, _⟩ => exact congrFun h 1
    | ⟨2, _⟩ => exact congrFun h 2
    | ⟨3, _⟩ => rfl
    | ⟨4, _⟩ => exact congrFun h 3
    | ⟨5, _⟩ => rfl

/-- The mean of a patch's channel. -/
theorem v7_apply (b : Fin 64) (r q : Fin 32) (ch : Fin 3) :
    val_main_v7 (F := Ideal) x1 (ix3 b (patch r q) ch) = Ideal.div (patchSum (pic x1 b ch) r q) ((256 : ℝ) : EReal) := by
  refine (shapeCast_apply _ shapeCasts_S64x32x32x3_S64x1024x3 _ (ix4 b r q ch) ?_).trans ?_
  · rw [Shape.rowMajor_val_four, Shape.rowMajor_val_three]
    show ((b.val * 32 + r.val) * 32 + q.val) * 3 + ch.val = (b.val * 1024 + (r.val * 32 + q.val)) * 3 + ch.val
    omega
  · rw [val_main_v6_apply, val_main_v5_apply, val_main_v4_apply, val_main_cst_1_apply]
    refine congrArg₂ Ideal.div (Eq.trans (congrArg (val_main_v3 (F := Ideal) x1) (funext fun a => ?_)) (v3_apply x1 b ch r q)) pixels
    match a with
    | ⟨0, _⟩ => rfl
    | ⟨1, _⟩ => rfl
    | ⟨2, _⟩ => rfl
    | ⟨3, _⟩ => rfl

/-- The edge of a bin. -/
theorem v12_apply (k : Fin 7) : val_main_v12 (F := Ideal) (ix1 k)
    = ((1 / 8 : ℝ) : EReal) + ((1 / 8 : ℝ) : EReal) * ((k.val : ℝ) : EReal) := by
  have e : val_main_v8 (F := Ideal) (ix1 k) = ((k.val : ℝ) : EReal) := by
    show (((BitVec.ofNat 32 k.val).toInt : ℝ) : EReal) = _
    rw [show (BitVec.ofNat 32 k.val).toInt = (k.val : ℤ) by revert k; decide]
    norm_num
  rw [val_main_v12_apply, val_main_v11_apply, val_main_cst_3_apply, val_main_v10_apply, val_main_v9_apply, val_main_cst_2_apply, e]
  exact congrArg₂ (· + ·) eighth (congrArg (· * _) eighth)

/-- Whether a bin's edge lies below a patch's mean. -/
theorem v18_apply (b : Fin 64) (r q : Fin 32) (ch : Fin 3) (k : Fin 7) :
    val_main_v18 (F := Ideal) x1 (ix4 b (patch r q) ch k)
      = BitVec.ofNat 32 (Ideal.cmp .ogt (patchSum (pic x1 b ch) r q) (((32 * ((k.val : ℝ) + 1) : ℝ)) : EReal)).toNat := by
  rw [val_main_v18_apply, val_main_v17_apply, val_main_v15_apply, val_main_v14_apply, val_main_v16_apply, val_main_v13_apply, setWidth_bit]
  refine congrArg (fun w : BitVec 1 => BitVec.ofNat 32 w.toNat) ?_
  rw [← cmp_bin, ← v7_apply, ← v12_apply]
  rfl

/-- How many bins lie below a patch's mean. -/
theorem v19_apply (b : Fin 64) (r q : Fin 32) (ch : Fin 3) :
    val_main_v19 (F := Ideal) x1 (ix3 b (patch r q) ch) = BitVec.ofNat 32 (level (patchSum (pic x1 b ch) r q)) := by
  refine (Host.reduce_eq_fold_single IntOp.addi _ _ reducesTo_S64x1024x3x7_S64x1024x3_d3 (by decide) h_S_ _).trans ?_
  refine Eq.trans (Finset.fold_congr fun k _ => ?_) (fold_words Finset.univ _)
  refine Eq.trans ?_ (v18_apply x1 b r q ch k)
  refine congrArg (val_main_v18 (F := Ideal) x1) (funext fun a => Fin.ext ?_)
  match a with
  | ⟨0, _⟩ => rfl
  | ⟨1, _⟩ => rfl
  | ⟨2, _⟩ => rfl
  | ⟨3, _⟩ => rfl

/-- The reference's powers of eight, by repeated squaring. -/
theorem v71_apply (ch : Fin 3) : val_main_v71 (F := Ideal) (ix1 ch) = BitVec.ofNat 32 (8 ^ ch.val) := by
  simp only [val_main_v20_apply, val_main_c_4_apply, val_main_c_5_apply, val_main_v21_apply, val_main_c_6_apply,
    val_main_v22_apply, val_main_v23_apply, val_main_v24_apply, val_main_v25_apply, val_main_c_7_apply,
    val_main_c_8_apply, val_main_call0_v0_apply, val_main_call0_v1_apply, val_main_v26_apply, val_main_c_9_apply,
    val_main_v27_apply, val_main_v28_apply, val_main_c_10_apply, val_main_v29_apply, val_main_v30_apply,
    val_main_call1_c_apply, val_main_call1_v0_apply, val_main_call1_v1_apply, val_main_v31_apply, val_main_c_11_apply,
    val_main_c_12_apply, val_main_v32_apply, val_main_c_13_apply, val_main_v33_apply, val_main_v34_apply,
    val_main_c_14_apply, val_main_v35_apply, val_main_v36_apply, val_main_v37_apply, val_main_v38_apply,
    val_main_call2_c_apply, val_main_call2_v0_apply, val_main_call2_v1_apply, val_main_v39_apply, val_main_v40_apply,
    val_main_c_15_apply, val_main_v41_apply, val_main_v42_apply, val_main_c_16_apply, val_main_v43_apply,
    val_main_v44_apply, val_main_v45_apply, val_main_v46_apply, val_main_call3_c_apply, val_main_call3_v0_apply,
    val_main_call3_v1_apply, val_main_v47_apply, val_main_v48_apply, val_main_c_17_apply, val_main_v49_apply,
    val_main_v50_apply, val_main_c_18_apply, val_main_v51_apply, val_main_v52_apply, val_main_v53_apply,
    val_main_v54_apply, val_main_call4_c_apply, val_main_call4_v0_apply, val_main_call4_v1_apply, val_main_v55_apply,
    val_main_v56_apply, val_main_c_19_apply, val_main_v57_apply, val_main_v58_apply, val_main_c_20_apply,
    val_main_v59_apply, val_main_v60_apply, val_main_v61_apply, val_main_v62_apply, val_main_call5_c_apply,
    val_main_call5_v0_apply, val_main_call5_v1_apply, val_main_v63_apply, val_main_v64_apply, val_main_c_21_apply,
    val_main_v65_apply, val_main_v66_apply, val_main_c_22_apply, val_main_v67_apply, val_main_v68_apply,
    val_main_v69_apply, val_main_v70_apply, val_main_call6_c_apply, val_main_call6_v0_apply, val_main_call6_v1_apply,
    val_main_v71_apply, val_main_v72_apply, val_main_c_23_apply, val_main_v73_apply, val_main_v74_apply]
  revert ch
  decide

/-- The label's place values: the powers of eight. -/
theorem v76_apply (b : Fin 64) (n : Fin 1024) (ch : Fin 3) : val_main_v76 (F := Ideal) (ix3 b n ch) = BitVec.ofNat 32 (8 ^ ch.val) := by
  rw [val_main_v76_apply, val_main_v75_apply, ← v71_apply]
  refine congrArg (val_main_v71 (F := Ideal)) (funext fun a => Fin.ext ?_)
  match a with
  | ⟨0, _⟩ =>
    show (0 * 1 + 0) * 3 + ch.val = ch.val
    omega

/-- The reference's label of a patch. -/
theorem v78_apply (b : Fin 64) (r q : Fin 32) :
    val_main_v78 (F := Ideal) x1 (ix2 b (patch r q)) = BitVec.ofNat 32 (lab (pic x1 b) r q).val := by
  refine (Host.reduce_eq_fold_single IntOp.addi _ _ reducesTo_S64x1024x3_S64x1024_d2 (by decide) h_S_ _).trans ?_
  have e : ∀ ch : Fin 3, val_main_v77 (F := Ideal) x1 (ix3 b (patch r q) ch)
      = BitVec.ofNat 32 (8 ^ ch.val * level (patchSum (pic x1 b ch) r q)) := fun ch => by
    rw [val_main_v77_apply, v76_apply, v19_apply]
    exact (BitVec.ofNat_mul ..).symm
  refine Eq.trans (Finset.fold_congr fun ch _ => ?_) ((fold_words Finset.univ fun ch : Fin 3 => 8 ^ ch.val * level (patchSum (pic x1 b ch) r q)).trans ?_)
  · refine Eq.trans ?_ (e ch)
    refine congrArg (val_main_v77 (F := Ideal) x1) (funext fun a => Fin.ext ?_)
    match a with
    | ⟨0, _⟩ => rfl
    | ⟨1, _⟩ => rfl
    | ⟨2, _⟩ => rfl
  · refine congrArg (BitVec.ofNat 32) ?_
    rw [Fin.sum_univ_three]
    show _ = code (pic x1 b) r q
    unfold code
    simp

end Cert.Proof.RefLabel
-- ==== Proof.RefLoss.lean ====
/- What the reference computes from the predictions: the greatest entry of a row, the logarithms of its softmax, and the
   entry the label picks. -/
module

public import proofs.«01_k».proof.Proof.RefLabel
public import Idealize.ShloMosaic.Lib.KernelVsHost
public import Idealize.ShloMosaic.Lib.ReduceAll

@[expose] public section

set_option maxRecDepth 16384

noncomputable section

namespace Cert.Proof.RefLoss

open Idealize.ShloMosaic hiding ix1 ix2 ix3 ix4 ix5 ix6
open Idealize.ShloMosaic.ValueIdx
open Cert.ReferenceIdeal Cert.ReferenceIdeal.Gen Cert.ReferenceIdeal.Read Cert.Proof.Spec Cert.Proof.RefLabel

/-- The greatest entry of a row. -/
def top (p : Fin 512 → EReal) : EReal := (Finset.univ : Finset (Fin 512)).fold max ⊥ p

/-- No entry is above the greatest one. -/
theorem entry_le_top (p : Fin 512 → EReal) (c : Fin 512) : p c ≤ top p :=
  (Finset.le_fold_max _).2 (Or.inr ⟨c, Finset.mem_univ c, le_refl _⟩)

/-- Some entry is the greatest one. -/
theorem top_attained (p : Fin 512 → EReal) : ∃ c, p c = top p := by
  obtain ⟨c, _, h⟩ := Finset.exists_max_image (Finset.univ : Finset (Fin 512)) p ⟨0, Finset.mem_univ _⟩
  exact ⟨c, le_antisymm (entry_le_top p c) ((Finset.fold_max_le _).2 ⟨bot_le, h⟩)⟩

/-- The literal that the maximum starts from. -/
theorem minus_infinity : Ideal.ofBits .f32 0xFF800000#32 = (⊥ : EReal) := by
  simp [Ideal.ofBits, Ideal.ieee, -EReal.coe_mul]

variable (x0 : FVec Ideal S64x1024x512 .f32) (x1 : FVec Ideal S64x3x512x512 .f32)

/-- A row of the predictions. -/
def row (b : Fin 64) (n : Fin 1024) (c : Fin 512) : EReal := x0 (ix3 b n c)

/-- Maximum over the last axis. -/
theorem reduce_max (b : Fin 64) (n : Fin 1024) :
    Host.reduce (FloatOps.maximumf (F := Ideal) (φ := .f32)) x0 (constant S_ .f32 0xFF800000#32) reducesTo_S64x1024x512_S64x1024_d2 h_S_ (ix2 b n)
      = top (row x0 b n) := by
  have hr : S64x1024x512.Reduces [2] S64x1024 := by decide
  refine (congrFun (hostReduce_maximumf_eq_multiReduction x0 0xFF800000#32 reducesTo_S64x1024x512_S64x1024_d2 h_S_ hr (by decide) rfl)
    (ix2 b n)).trans ?_
  refine (Ideal.multiReduction_maximumf_single x0 _ hr _ _ _).trans ?_
  refine (congrArg (fun z => Finset.fold max z _ _) minus_infinity).trans (Finset.fold_congr fun c _ => ?_)
  refine congrArg x0 (funext fun a => Fin.ext ?_)
  match a with
  | ⟨0, _⟩ => rfl
  | ⟨1, _⟩ => rfl
  | ⟨2, _⟩ => rfl

/-- The row's greatest entry, as the reference subtracts it. -/
theorem shift_apply (b : Fin 64) (n : Fin 1024) : val_main_call7_v2 (F := Ideal) x0 (ix2 b n) = top (row x0 b n) := by
  rw [val_main_call7_v2_apply, val_main_call7_v1_apply, val_main_call7_cst_0_apply]
  refine (congrArg₂ max minus_infinity (reduce_max x0 b n)).trans ?_
  exact max_eq_right bot_le

/-- An entry less its row's greatest. -/
theorem shifted_apply (b : Fin 64) (n : Fin 1024) (c : Fin 512) :
    val_main_call7_v5 (F := Ideal) x0 (ix3 b n c) = row x0 b n c - top (row x0 b n) := by
  rw [val_main_call7_v5_apply, val_main_call7_v4_apply, val_main_call7_v3_apply, ← shift_apply]
  refine congrArg (x0 (ix3 b n c) - ·) (congrArg (val_main_call7_v2 (F := Ideal) x0) (funext fun a => ?_))
  match a with
  | ⟨0, _⟩ => rfl
  | ⟨1, _⟩ => rfl

/-- The sum of the exponentials of a row's shifted entries. -/
theorem exps_apply (b : Fin 64) (n : Fin 1024) :
    val_main_call7_v7 (F := Ideal) x0 (ix2 b n) = ∑ c, Ideal.exp (row x0 b n c - top (row x0 b n)) := by
  rw [val_main_call7_v7_apply, val_main_call7_cst_1_apply,
    show FloatOps.ofBits (F := Ideal) .f32 0x00000000#32 = (0 : EReal) from Ideal.ofBits_zero_f32, zero_add]
  refine Finset.sum_congr rfl fun c _ => ?_
  rw [val_main_call7_v6_apply, ← shifted_apply]
  refine congrArg (fun z => Ideal.exp (val_main_call7_v5 (F := Ideal) x0 z)) (funext fun a => ?_)
  match a with
  | ⟨0, _⟩ => rfl
  | ⟨1, _⟩ => rfl
  | ⟨2, _⟩ => rfl

/-- The logarithm of the softmax of a row. -/
theorem log_softmax_apply (b : Fin 64) (n : Fin 1024) (l : Fin 512) : val_main_v79 (F := Ideal) x0 (ix3 b n l)
    = (row x0 b n l - top (row x0 b n)) - Ideal.log (∑ c, Ideal.exp (row x0 b n c - top (row x0 b n))) := by
  rw [val_main_v79_apply, shifted_apply, val_main_call7_v10_apply, val_main_call7_v9_apply, val_main_call7_v8_apply, ← exps_apply]
  refine congrArg (fun z => _ - Ideal.log (val_main_call7_v7 (F := Ideal) x0 z)) (funext fun a => ?_)
  match a with
  | ⟨0, _⟩ => rfl
  | ⟨1, _⟩ => rfl

/-- The label of patch `n`. -/
def labAt (b : Fin 64) (n : Fin 1024) : Fin 512 := lab (pic x1 b) ⟨n.val / 32, by omega⟩ ⟨n.val % 32, by omega⟩

/-- The label of a patch by its row and column. -/
theorem labAt_patch (b : Fin 64) (r q : Fin 32) : labAt x1 b (patch r q) = lab (pic x1 b) r q := by
  unfold labAt
  congr 1
  · exact Fin.ext (by show (r.val * 32 + q.val) / 32 = r.val; omega)
  · exact Fin.ext (by show (r.val * 32 + q.val) % 32 = q.val; omega)

/-- The reference's label, by the patch's number. -/
theorem label_apply (b : Fin 64) (n : Fin 1024) : val_main_v78 (F := Ideal) x1 (ix2 b n) = BitVec.ofNat 32 (labAt x1 b n).val := by
  have e : n = patch ⟨n.val / 32, by omega⟩ ⟨n.val % 32, by omega⟩ :=
    Fin.ext (by show n.val = n.val / 32 * 32 + n.val % 32; omega)
  conv_lhs => rw [e]
  exact v78_apply x1 b _ _

/-- A label's word is not negative, is at most 511, and read as a signed number is the label. -/
theorem word_facts (l : Fin 512) : IntOp.cmpi .slt (BitVec.ofNat 32 l.val) 0#32 = 0#1 ∧ IntOp.cmpi .sge (BitVec.ofNat 32 l.val) 0#32 = 1#1
    ∧ IntOp.cmpi .sle (BitVec.ofNat 32 l.val) 511#32 = 1#1 ∧ min (BitVec.ofNat 32 l.val).toInt.toNat 511 = l.val := by
  revert l
  decide +kernel

/-- The index the reference picks with. -/
theorem index_apply (b : Fin 64) (n : Fin 1024) (u v : Fin 1) :
    val_main_call8_v5 (F := Ideal) x1 (ix4 b n u v) = BitVec.ofNat 32 (labAt x1 b n).val := by
  refine (shapeCast_apply _ shapeCasts_S64x1024x1_S64x1024x1x1 _ (ix3 b n u) ?_).trans ?_
  · rw [Shape.rowMajor_val_three, Shape.rowMajor_val_four]
    show (b.val * 1024 + n.val) * 1 + u.val = ((b.val * 1024 + n.val) * 1 + u.val) * 1 + v.val
    omega
  · have e : val_main_v80 (F := Ideal) x1 (ix3 b n u) = BitVec.ofNat 32 (labAt x1 b n).val := by
      rw [val_main_v80_apply, ← label_apply]
      refine congrArg (val_main_v78 (F := Ideal) x1) (funext fun a => ?_)
      match a with
      | ⟨0, _⟩ => rfl
      | ⟨1, _⟩ => rfl
    rw [val_main_call8_v4_apply, val_main_call8_v1_apply, val_main_call8_v0_apply, val_main_call8_c_apply, e, (word_facts _).1]
    rfl

/-- Every index is in range. -/
theorem in_range (b : Fin 64) (n : Fin 1024) (u : Fin 1) : val_main_call8_v12 (F := Ideal) x1 (ix3 b n u) = 1#1 := by
  refine Host.reduce_andi_one _ _ reducesTo_S64x1024x1x1_S64x1024x1_d3 h_S_ _ rfl fun i => ?_
  have hi : i = ix4 (i 0) (i 1) (i 2) (i 3) := funext fun a => by
    match a with
    | ⟨0, _⟩ => rfl
    | ⟨1, _⟩ => rfl
    | ⟨2, _⟩ => rfl
    | ⟨3, _⟩ => rfl
  rw [val_main_call8_v11_apply, val_main_call8_v7_apply, val_main_call8_v10_apply, val_main_call8_v6_apply, val_main_call8_v9_apply,
    val_main_call8_v8_apply, val_main_call8_c_2_apply, val_main_call8_c_1_apply]
  rw [show val_main_call8_v5 (F := Ideal) x1 i = _ from (congrArg _ hi).trans (index_apply x1 (i 0) (i 1) (i 2) (i 3)),
    (word_facts _).2.1, (word_facts _).2.2.1]
  rfl

/-- The dimension numbers of the reference's pick: both outer axes go along with the index, the last is indexed. -/
abbrev pickDims := gather_S64x1024x512_S64x1024x1x1_S64x1024x1_n_2_01_01_2_3_111

/-- The pick, read at an element. -/
theorem pick_apply (x : S64x1024x512.Idx → EReal) (idx : IVec S64x1024x1x1 32) (b : Fin 64) (n : Fin 1024) (u : Fin 1) :
    Host.gather pickDims x idx (ix3 b n u) = x (ix3 b n ⟨min (idx (ix4 b n u 0)).toInt.toNat 511, by omega⟩) := by
  unfold Host.gather
  refine congrArg x (funext fun a => Fin.ext ?_)
  show pickDims.start (ix3 b n u) idx a + pickDims.batchCoord (ix3 b n u) a + pickDims.offCoord (ix3 b n u) a = _
  match a with
  | ⟨0, _⟩ =>
    show pickDims.start (ix3 b n u) idx (0 : Fin 3) + pickDims.batchCoord (ix3 b n u) (0 : Fin 3) + pickDims.offCoord (ix3 b n u) (0 : Fin 3)
      = b.val
    have hm : (0 : Fin 3) ∈ pickDims.operandBatchingDims := by decide
    rw [GatherDims.start_batching _ _ _ _ hm, GatherDims.offCoord_eq_zero _ _ _ (fun h => ((GatherDims.mem_sKept _ _).mp h).2 hm)]
    unfold GatherDims.batchCoord
    rw [dif_pos hm]
    exact (Nat.zero_add _)
  | ⟨1, _⟩ =>
    show pickDims.start (ix3 b n u) idx (1 : Fin 3) + pickDims.batchCoord (ix3 b n u) (1 : Fin 3) + pickDims.offCoord (ix3 b n u) (1 : Fin 3)
      = n.val
    have hm : (1 : Fin 3) ∈ pickDims.operandBatchingDims := by decide
    rw [GatherDims.start_batching _ _ _ _ hm, GatherDims.offCoord_eq_zero _ _ _ (fun h => ((GatherDims.mem_sKept _ _).mp h).2 hm)]
    unfold GatherDims.batchCoord
    rw [dif_pos hm]
    exact (Nat.zero_add _)
  | ⟨2, _⟩ =>
    show pickDims.start (ix3 b n u) idx (2 : Fin 3) + pickDims.batchCoord (ix3 b n u) (2 : Fin 3) + pickDims.offCoord (ix3 b n u) (2 : Fin 3)
      = min (idx (ix4 b n u 0)).toInt.toNat 511
    have hc : (2 : Fin 3) ∈ pickDims.collapsedSliceDims := by decide
    have hm : (2 : Fin 3) ∈ pickDims.startIndexMap := by decide
    rw [GatherDims.batchCoord_eq_zero _ _ _ (by decide : ¬ (2 : Fin 3) ∈ pickDims.operandBatchingDims),
      GatherDims.offCoord_eq_zero _ _ _ (fun h => ((GatherDims.mem_sKept _ _).mp h).1 hc)]
    unfold GatherDims.start
    rw [dif_pos hm]
    have hs : pickDims.siIdx (ix3 b n u) ⟨List.idxOf (2 : Fin 3) pickDims.startIndexMap, List.idxOf_lt_length_iff.2 hm⟩ = ix4 b n u 0 :=
      funext fun c => Fin.ext (by match c with | ⟨0, _⟩ => rfl | ⟨1, _⟩ => rfl | ⟨2, _⟩ => rfl | ⟨3, _⟩ => rfl)
    rw [hs]
    rfl

/-- The entry picked for a patch: the logarithm of its label's share. -/
theorem picked_apply (b : Fin 64) (n : Fin 1024) :
    val_main_v82 (F := Ideal) x0 x1 (ix2 b n) = val_main_v79 (F := Ideal) x0 (ix3 b n (labAt x1 b n)) := by
  refine (shapeCast_apply _ shapeCasts_S64x1024x1_S64x1024 _ (ix3 b n 0) ?_).trans ?_
  · rw [Shape.rowMajor_val_three, Shape.rowMajor_val_two]
    show (b.val * 1024 + n.val) * 1 + 0 = b.val * 1024 + n.val
    omega
  · rw [val_main_v81_apply, in_range]
    refine (pick_apply (val_main_v79 (F := Ideal) x0) (val_main_call8_v5 (F := Ideal) x1) b n 0).trans ?_
    refine congrArg (fun l => val_main_v79 (F := Ideal) x0 (ix3 b n l)) (Fin.ext ?_)
    show min (val_main_call8_v5 (F := Ideal) x1 (ix4 b n 0 0)).toInt.toNat 511 = _
    rw [index_apply]
    exact (word_facts _).2.2.2

/-- A patch's loss, where the row's greatest entry is finite. -/
theorem loss_apply (b : Fin 64) (n : Fin 1024) (hb : top (row x0 b n) ≠ ⊥) (ht : top (row x0 b n) ≠ ⊤) :
    val_main_v83 (F := Ideal) x0 x1 (ix2 b n) = rowLoss (row x0 b n) (labAt x1 b n) := by
  obtain ⟨c, hc⟩ := top_attained (row x0 b n)
  rw [val_main_v83_apply, picked_apply, log_softmax_apply]
  exact row_loss (row x0 b n) _ hb ht (entry_le_top _) c hc _

end Cert.Proof.RefLoss
-- ==== Proof.RefMean.lean ====
/- The reference's result is the quotient the kernel computes, and what the precondition gives about a row. -/
module

public import proofs.«01_k».proof.Proof.RefLoss
public import proofs.«01_k».proof.Proof.Gen.Pre_finite_row_max

@[expose] public section

set_option maxRecDepth 16384

noncomputable section

namespace Cert.Proof.RefMean

open Idealize.ShloMosaic hiding ix1 ix2 ix3 ix4 ix5 ix6
open Idealize.ShloMosaic.ValueIdx
open Cert.ReferenceIdeal Cert.ReferenceIdeal.Gen Cert.ReferenceIdeal.Read Cert.Proof.Spec Cert.Proof.RefLabel Cert.Proof.RefLoss

variable (x0 : FVec Ideal S64x1024x512 .f32) (x1 : FVec Ideal S64x3x512x512 .f32) (x2 : IVec S64x1024 1)

/-- The mask by coordinates. -/
def mask (b : Fin 64) (n : Fin 1024) : BitVec 1 := x2 (ix2 b n)

/-- The mask as a number. -/
theorem weight_apply (b : Fin 64) (n : Fin 1024) : val_main_v84 (F := Ideal) x2 (ix2 b n) = weight (mask x2 b n) := rfl

/-- A patch's part of the sum of losses. -/
theorem term_apply (h : ∀ b n, top (row x0 b n) ≠ ⊥ ∧ top (row x0 b n) ≠ ⊤) (b : Fin 64) (r q : Fin 32) :
    val_main_v85 (F := Ideal) x0 x1 x2 (ix2 b (patch r q)) = term (row x0) (pic x1) (mask x2) b r q := by
  rw [val_main_v85_apply, loss_apply x0 x1 b _ (h b _).1 (h b _).2, labAt_patch, weight_apply]
  exact mul_comm (rowLoss (row x0 b (patch r q)) (lab (pic x1 b) r q)) (weight (mask x2 b (patch r q)))

/-- The sum of the losses. -/
theorem num_apply (h : ∀ b n, top (row x0 b n) ≠ ⊥ ∧ top (row x0 b n) ≠ ⊤) (i : S_.Idx) :
    val_main_v86 (F := Ideal) x0 x1 x2 i = num (row x0) (pic x1) (mask x2) := by
  rw [val_main_v86_apply, val_main_cst_25_apply,
    show FloatOps.ofBits (F := Ideal) .f32 0x00000000#32 = (0 : EReal) from Ideal.ofBits_zero_f32, zero_add]
  refine (ValueIdx.sum_idx2 (n0 := 64) (n1 := 1024) (val_main_v85 (F := Ideal) x0 x1 x2)).trans (Finset.sum_congr rfl fun b _ => ?_)
  refine (sum_patch fun n => val_main_v85 (F := Ideal) x0 x1 x2 (ix2 b n)).symm.trans ?_
  exact Finset.sum_congr rfl fun r _ => Finset.sum_congr rfl fun q _ => term_apply x0 x1 x2 h b r q

/-- How many patches count. -/
theorem den_apply (i : S_.Idx) : val_main_v87 (F := Ideal) x2 i = den (mask x2) := by
  rw [val_main_v87_apply, val_main_cst_26_apply,
    show FloatOps.ofBits (F := Ideal) .f32 0x00000000#32 = (0 : EReal) from Ideal.ofBits_zero_f32, zero_add]
  refine (ValueIdx.sum_idx2 (n0 := 64) (n1 := 1024) (val_main_v84 (F := Ideal) x2)).trans (Finset.sum_congr rfl fun b _ => ?_)
  exact (sum_patch fun n => val_main_v84 (F := Ideal) x2 (ix2 b n)).symm

/-- The reference's result: the mean loss over the patches that count. -/
theorem result (h : ∀ b n, top (row x0 b n) ≠ ⊥ ∧ top (row x0 b n) ≠ ⊤) :
    val_main_v88 (F := Ideal) x0 x1 x2 = fun _ => Ideal.div (num (row x0) (pic x1) (mask x2)) (den (mask x2)) := by
  funext i
  rw [val_main_v88_apply, num_apply x0 x1 x2 h, den_apply]
  rfl

/-- The literal that the precondition compares with. -/
theorem plus_infinity : Ideal.ofBits .f32 0x7F800000#32 = (⊤ : EReal) := by
  simp [Ideal.ofBits, Ideal.ieee, -EReal.coe_mul]

/-- The precondition's comparison, read at a row. -/
theorem compare_apply (R : FVec Ideal S64x1024 .f32) (hb : S_.BroadcastsInDim S64x1024 (![] : Fin 0 → Fin S64x1024.rank)) (j : S64x1024.Idx) :
    cmpf .olt (Host.absf R) (broadcastInDim S64x1024 ![] hb (constant (F := Ideal) S_ .f32 0x7F800000#32)) j
      = Ideal.cmp .olt (max (R j) (-R j)) ⊤ :=
  congrArg (Ideal.cmp .olt (max (R j) (-R j))) plus_infinity

/-- What the precondition says: no row's greatest entry is infinite. -/
theorem finite_rows (h : Cert.Pre_finite_row_max.fn (F := Ideal) x0 x1 x2 = fun _ => 1#1) (b : Fin 64) (n : Fin 1024) :
    top (row x0 b n) ≠ ⊥ ∧ top (row x0 b n) ≠ ⊤ := by
  have e : Ideal.cmp .olt (max (top (row x0 b n)) (-top (row x0 b n))) ⊤ = 1#1 := by
    have hj := (compare_apply (Host.reduce (FloatOps.maximumf (F := Ideal) (φ := .f32)) x0 (constant S_ .f32 0xFF800000#32)
      reducesTo_S64x1024x512_S64x1024_d2 h_S_) bcast_S_S64x1024 (ix2 b n)).symm.trans (congrFun h (ix2 b n))
    rw [reduce_max] at hj
    exact hj
  have lt : max (top (row x0 b n)) (-top (row x0 b n)) < ⊤ := by
    by_contra hn
    have : Ideal.cmp .olt (max (top (row x0 b n)) (-top (row x0 b n))) ⊤ = 0#1 :=
      congrArg BitVec.ofBool (decide_eq_false hn)
    exact absurd (e.symm.trans this) (by decide)
  constructor
  · intro hb
    rw [hb] at lt
    exact absurd lt (by simp)
  · intro ht
    rw [ht] at lt
    exact absurd lt (by simp)

end Cert.Proof.RefMean
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_row_max
public import proofs.«01_k».proof.Proof.RefMean
public import Idealize.ShloMosaic.Adequacy
public import Idealize.ShloMosaic.Init

@[expose] public section

noncomputable section

namespace Cert.Proof

open Idealize.ShloMosaic Idealize.SL.Sem

/-- The kernel as printed runs, leaves its arguments as they were and every semaphore counter at zero. -/
theorem frame_kernel : Cert.quiescent_Kernel := fun m ρ _ => Cert.Kernel.Gen.frame m ρ

/-- The kernel at the ideal instance runs, leaves its arguments as they were and every semaphore counter at zero. -/
theorem frame_kernel_ideal : Cert.quiescent_KernelIdeal := fun m ρ _ => Cert.KernelIdeal.Gen.frame m ρ

/-- The same frame of the ideal kernel, stated under the precondition (which it does not need). -/
theorem frame_kernel_ideal_pre : Cert.quiescent_KernelIdeal_pre_finite_row_max :=
  fun m ρ _ => Cert.KernelIdeal.Gen.frame m ρ

/-- The reference runs from any memory, leaves its arguments as they were, and declares no semaphore at all. -/
theorem reference_quiet : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference's frame under the precondition (which it does not need). -/
theorem reference_quiet_pre : Cert.quiescent_ReferenceIdeal_pre_finite_row_max :=
  fun m ρ _ => reference_quiet m ρ trivial

/-- From memories that agree on the arguments, where no row of the predictions has an infinite greatest entry, the kernel
    and the reference both end with the mean loss. -/
theorem same_result : Cert.algebraic_KernelIdeal_ReferenceIdeal_pre_finite_row_max := by
  intro m g m' g' hp ha
  refine ⟨Cert.Proof.Arrays.mean m, Cert.Proof.Arrays.run m g, ?_⟩
  refine (θ_run Cert.ReferenceIdeal.defs _ _).mono (fun r h c => ⟨?_, (h c).2⟩) (Cert.ReferenceIdeal.Value.run (F := Ideal) m' g')
  refine (h c).1.trans ((Cert.ReferenceIdeal.Read.val_main_v88_eq _).trans ?_)
  obtain ⟨e0, e1, e2⟩ := ha c
  show Cert.ReferenceIdeal.Read.val_main_v88 (F := Ideal) (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2)) = _
  rw [e0, e1, e2]
  exact Cert.Proof.RefMean.result _ _ _ (Cert.Proof.RefMean.finite_rows _ _ _ (hp c))

/-- The certificate. -/
theorem claim : Cert.Claim :=
  ⟨Cert.Kernel.Gen.facts, Cert.KernelIdeal.Gen.facts, Cert.ReferenceIdeal.Gen.facts, Cert.Pre_finite_row_max.Gen.facts,
    frame_kernel, frame_kernel_ideal, frame_kernel_ideal_pre, reference_quiet, reference_quiet_pre, trivial, same_result⟩

end Cert.Proof

end
